-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5)
      ∧ r.2.mem ((c.tc : Thread Cert.QkvKernel.nD Cert.QkvKernel.τ).loc Cert.QkvKernel.main_arg6) = m ((c.tc : Thread Cert.QkvKernel.nD Cert.QkvKernel.τ).loc Cert.QkvKernel.main_arg6)
      ∧ r.2.mem ((c.tc : Thread Cert.QkvKernel.nD Cert.QkvKernel.τ).loc Cert.QkvKernel.main_arg7) = m ((c.tc : Thread Cert.QkvKernel.nD Cert.QkvKernel.τ).loc Cert.QkvKernel.main_arg7))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
      ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6)
      ∧ r.2.mem ((c.tc : Thread Cert.QkvKernelIdeal.nD Cert.QkvKernelIdeal.τ).loc Cert.QkvKernelIdeal.main_arg7) = m ((c.tc : Thread Cert.QkvKernelIdeal.nD Cert.QkvKernelIdeal.τ).loc Cert.QkvKernelIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)
      ∧ m' ((c.tc : Thread Cert.QkvReferenceIdeal.nD Cert.QkvReferenceIdeal.τ).loc Cert.QkvReferenceIdeal.main_arg6) = m ((c.tc : Thread Cert.QkvKernelIdeal.nD Cert.QkvKernelIdeal.τ).loc Cert.QkvKernelIdeal.main_arg6)
      ∧ m' ((c.tc : Thread Cert.QkvReferenceIdeal.nD Cert.QkvReferenceIdeal.τ).loc Cert.QkvReferenceIdeal.main_arg7) = m ((c.tc : Thread Cert.QkvKernelIdeal.nD Cert.QkvKernelIdeal.τ).loc Cert.QkvKernelIdeal.main_arg7)) →
    ∃ (v0 : (c : Dev Cert.QkvKernelIdeal.nD) → Buf (Elt Ideal) ((c.tc : Thread Cert.QkvKernelIdeal.nD Cert.QkvKernelIdeal.τ).loc Cert.QkvKernelIdeal.main_v0_0)) (v1 : (c : Dev Cert.QkvKernelIdeal.nD) → Buf (Elt Ideal) ((c.tc : Thread Cert.QkvKernelIdeal.nD Cert.QkvKernelIdeal.τ).loc Cert.QkvKernelIdeal.main_v0_1)) (v2 : (c : Dev Cert.QkvKernelIdeal.nD) → Buf (Elt Ideal) ((c.tc : Thread Cert.QkvKernelIdeal.nD Cert.QkvKernelIdeal.τ).loc Cert.QkvKernelIdeal.main_v0_2)) (v3 : (c : Dev Cert.QkvKernelIdeal.nD) → Buf (Elt Ideal) ((c.tc : Thread Cert.QkvKernelIdeal.nD Cert.QkvKernelIdeal.τ).loc Cert.QkvKernelIdeal.main_v1)) (v4 : (c : Dev Cert.QkvKernelIdeal.nD) → Buf (Elt Ideal) ((c.tc : Thread Cert.QkvKernelIdeal.nD Cert.QkvKernelIdeal.τ).loc Cert.QkvKernelIdeal.main_v0_5)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v0_0) = v0 c
          ∧ r.2.mem ((c.tc : Thread Cert.QkvKernelIdeal.nD Cert.QkvKernelIdeal.τ).loc Cert.QkvKernelIdeal.main_v0_1) = v1 c
          ∧ r.2.mem ((c.tc : Thread Cert.QkvKernelIdeal.nD Cert.QkvKernelIdeal.τ).loc Cert.QkvKernelIdeal.main_v0_2) = v2 c
          ∧ r.2.mem ((c.tc : Thread Cert.QkvKernelIdeal.nD Cert.QkvKernelIdeal.τ).loc Cert.QkvKernelIdeal.main_v1) = v3 c
          ∧ r.2.mem ((c.tc : Thread Cert.QkvKernelIdeal.nD Cert.QkvKernelIdeal.τ).loc Cert.QkvKernelIdeal.main_v0_5) = v4 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
          ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6)
          ∧ r.2.mem ((c.tc : Thread Cert.QkvKernelIdeal.nD Cert.QkvKernelIdeal.τ).loc Cert.QkvKernelIdeal.main_arg7) = m ((c.tc : Thread Cert.QkvKernelIdeal.nD Cert.QkvKernelIdeal.τ).loc Cert.QkvKernelIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0_0) = v0 c
          ∧ r.2.mem ((c.tc : Thread Cert.QkvReferenceIdeal.nD Cert.QkvReferenceIdeal.τ).loc Cert.QkvReferenceIdeal.main_v0_1) = v1 c
          ∧ r.2.mem ((c.tc : Thread Cert.QkvReferenceIdeal.nD Cert.QkvReferenceIdeal.τ).loc Cert.QkvReferenceIdeal.main_v0_2) = v2 c
          ∧ r.2.mem ((c.tc : Thread Cert.QkvReferenceIdeal.nD Cert.QkvReferenceIdeal.τ).loc Cert.QkvReferenceIdeal.main_v0_3) = v3 c
          ∧ r.2.mem ((c.tc : Thread Cert.QkvReferenceIdeal.nD Cert.QkvReferenceIdeal.τ).loc Cert.QkvReferenceIdeal.main_v0_4) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def Claim : Prop :=
  ∃ (hKernel : Cert.Kernel.Facts) (hKernelIdeal : Cert.KernelIdeal.Facts) (hReferenceIdeal : Cert.ReferenceIdeal.Facts) (hQkvKernel : Cert.QkvKernel.Facts) (hQkvKernelIdeal : Cert.QkvKernelIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_QkvKernel_QkvKernelIdeal
    ∧ algebraic_QkvKernelIdeal_QkvReferenceIdeal (hQkvKernelIdeal := hQkvKernelIdeal) (hQkvReferenceIdeal := hQkvReferenceIdeal)
-- ==== Kernel.lean ====
abbrev S1280x8192 : Shape := ⟨2, ![1280, 8192]⟩
abbrev S8192x1280 : Shape := ⟨2, ![8192, 1280]⟩
abbrev S1280x1280 : Shape := ⟨2, ![1280, 1280]⟩
abbrev S1280 : Shape := ⟨1, ![1280]⟩
abbrev S640x3456 : Shape := ⟨2, ![640, 3456]⟩
abbrev S40x3456 : Shape := ⟨2, ![40, 3456]⟩
abbrev S3456 : Shape := ⟨1, ![3456]⟩
abbrev S3456x1280 : Shape := ⟨2, ![3456, 1280]⟩
abbrev S1280x6912 : Shape := ⟨2, ![1280, 6912]⟩
abbrev S640x128 : Shape := ⟨2, ![640, 128]⟩
abbrev S40x128 : Shape := ⟨2, ![40, 128]⟩
abbrev S1280x256 : Shape := ⟨2, ![1280, 256]⟩
abbrev S160x128 : Shape := ⟨2, ![160, 128]⟩
abbrev S640x1x128 : Shape := ⟨3, ![640, 1, 128]⟩
abbrev S640x2x128 : Shape := ⟨3, ![640, 2, 128]⟩
abbrev S1280x128 : Shape := ⟨2, ![1280, 128]⟩
abbrev S40x1x128 : Shape := ⟨3, ![40, 1, 128]⟩
abbrev S40x32x128 : Shape := ⟨3, ![40, 32, 128]⟩
abbrev S1x1280 : Shape := ⟨2, ![1, 1280]⟩
abbrev S1x3456 : Shape := ⟨2, ![1, 3456]⟩
abbrev S1x8192 : Shape := ⟨2, ![1, 8192]⟩
abbrev S8192x3456 : Shape := ⟨2, ![8192, 3456]⟩
abbrev S256x1280 : Shape := ⟨2, ![256, 1280]⟩
abbrev S1x256 : Shape := ⟨2, ![1, 256]⟩
abbrev S256x3456 : Shape := ⟨2, ![256, 3456]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S256x256 : Shape := ⟨2, ![256, 256]⟩
abbrev S1x128 : Shape := ⟨2, ![1, 128]⟩

abbrev nBuf : Space → Nat
  | .hbm => 31
  | .vmem => 41
  | .smem => 0
  | _ => 0

abbrev bufTy : (tb : Table) → Fin (tcTables nBuf tb) → BufTy
  | .hbm, ⟨0, _⟩ => ⟨S1280x8192, .f32⟩
  | .hbm, ⟨1, _⟩ => ⟨S8192x1280, .bf16⟩
  | .hbm, ⟨2, _⟩ => ⟨S1280x1280, .fp8e4m3⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S640x3456, .i8⟩
  | .hbm, ⟨7, _⟩ => ⟨S40x3456, .i8⟩
  | .hbm, ⟨8, _⟩ => ⟨S3456, .f32⟩
  | .hbm, ⟨9, _⟩ => ⟨S640x3456, .i8⟩
  | .hbm, ⟨10, _⟩ => ⟨S40x3456, .i8⟩
  | .hbm, ⟨11, _⟩ => ⟨S3456, .f32⟩
  | .hbm, ⟨12, _⟩ => ⟨S3456x1280, .fp8e4m3⟩
  | .hbm, ⟨13, _⟩ => ⟨S1280, .f32⟩
  | .hbm, ⟨14, _⟩ => ⟨S1280, .f32⟩
  | .hbm, ⟨15, _⟩ => ⟨S1280x6912, .bf16⟩
  | .hbm, ⟨16, _⟩ => ⟨S1x1280, .f32⟩
  | .hbm, ⟨17, _⟩ => ⟨S1x1280, .f32⟩
  | .hbm, ⟨18, _⟩ => ⟨S1x1280, .f32⟩
  | .hbm, ⟨19, _⟩ => ⟨S1x3456, .f32⟩
  | .hbm, ⟨20, _⟩ => ⟨S1x3456, .f32⟩
  | .hbm, ⟨21, _⟩ => ⟨S1x1280, .f32⟩
  | .hbm, ⟨22, _⟩ => ⟨S1x1280, .f32⟩
  | .hbm, ⟨23, _⟩ => ⟨S8192x1280, .f32⟩
  | .hbm, ⟨24, _⟩ => ⟨S8192x1280, .fp8e4m3⟩
  | .hbm, ⟨25, _⟩ => ⟨S1x8192, .f32⟩
  | .hbm, ⟨26, _⟩ => ⟨S8192x1280, .fp8e4m3⟩
  | .hbm, ⟨27, _⟩ => ⟨S1x8192, .f32⟩
  | .hbm, ⟨28, _⟩ => ⟨S8192x3456, .fp8e4m3⟩
  | .hbm, ⟨29, _⟩ => ⟨S1x8192, .f32⟩
  | .hbm, ⟨30, _⟩ => ⟨S8192x1280, .bf16⟩
  | .local _ .vmem, ⟨0, _⟩ => ⟨S640x128, .i8⟩
  | .local _ .vmem, ⟨1, _⟩ => ⟨S640x128, .i8⟩
  | .local _ .vmem, ⟨2, _⟩ => ⟨S40x128, .i8⟩
  | .local _ .vmem, ⟨3, _⟩ => ⟨S40x128, .i8⟩
  | .local _ .vmem, ⟨4, _⟩ => ⟨S640x128, .i8⟩
  | .local _ .vmem, ⟨5, _⟩ => ⟨S640x128, .i8⟩
  | .local _ .vmem, ⟨6, _⟩ => ⟨S40x128, .i8⟩
  | .local _ .vmem, ⟨7, _⟩ => ⟨S40x128, .i8⟩
  | .local _ .vmem, ⟨8, _⟩ => ⟨S1280x256, .bf16⟩
  | .local _ .vmem, ⟨9, _⟩ => ⟨S1280x256, .bf16⟩
  | .local _ .vmem, ⟨10, _⟩ => ⟨S1280x256, .f32⟩
  | .local _ .vmem, ⟨11, _⟩ => ⟨S1280x256, .f32⟩
  | .local _ .vmem, ⟨12, _⟩ => ⟨S256x1280, .bf16⟩
  | .local _ .vmem, ⟨13, _⟩ => ⟨S256x1280, .bf16⟩
  | .local _ .vmem, ⟨14, _⟩ => ⟨S1280x1280, .fp8e4m3⟩
  | .local _ .vmem, ⟨15, _⟩ => ⟨S1x1280, .f32⟩
  | .local _ .vmem, ⟨16, _⟩ => ⟨S1x1280, .f32⟩
  | .local _ .vmem, ⟨17, _⟩ => ⟨S1x1280, .f32⟩
  | .local _ .vmem, ⟨18, _⟩ => ⟨S1280x6912, .bf16⟩
  | .local _ .vmem, ⟨19, _⟩ => ⟨S1x3456, .f32⟩
  | .local _ .vmem, ⟨20, _⟩ => ⟨S1x3456, .f32⟩
  | .local _ .vmem, ⟨21, _⟩ => ⟨S3456x1280, .fp8e4m3⟩
  | .local _ .vmem, ⟨22, _⟩ => ⟨S1x1280, .f32⟩
  | .local _ .vmem, ⟨23, _⟩ => ⟨S1x1280, .f32⟩
  | .local _ .vmem, ⟨24, _⟩ => ⟨S256x1280, .f32⟩
  | .local _ .vmem, ⟨25, _⟩ => ⟨S256x1280, .f32⟩
  | .local _ .vmem, ⟨26, _⟩ => ⟨S256x1280, .fp8e4m3⟩
  | .local _ .vmem, ⟨27, _⟩ => ⟨S256x1280, .fp8e4m3⟩
  | .local _ .vmem, ⟨28, _⟩ => ⟨S1x256, .f32⟩
  | .local _ .vmem, ⟨29, _⟩ => ⟨S1x256, .f32⟩
  | .local _ .vmem, ⟨30, _⟩ => ⟨S256x1280, .fp8e4m3⟩
  | .local _ .vmem, ⟨31, _⟩ => ⟨S256x1280, .fp8e4m3⟩
  | .local _ .vmem, ⟨32, _⟩ => ⟨S1x256, .f32⟩
  | .local _ .vmem, ⟨33, _⟩ => ⟨S1x256, .f32⟩
  | .local _ .vmem, ⟨34, _⟩ => ⟨S256x3456, .fp8e4m3⟩
  | .local _ .vmem, ⟨35, _⟩ => ⟨S256x3456, .fp8e4m3⟩
  | .local _ .vmem, ⟨36, _⟩ => ⟨S1x256, .f32⟩
  | .local _ .vmem, ⟨37, _⟩ => ⟨S1x256, .f32⟩
  | .local _ .vmem, ⟨38, _⟩ => ⟨S256x1280, .bf16⟩
  | .local _ .vmem, ⟨39, _⟩ => ⟨S256x1280, .bf16⟩
  | .local _ .vmem, ⟨40, _⟩ => ⟨S256x3456, .f32⟩
  | _, _ => ⟨S1280x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v8_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc1_stg16_0 : Ref sig .tc := ⟨.vmem, 32, rfl⟩
abbrev cc1_stg16_1 : Ref sig .tc := ⟨.vmem, 33, rfl⟩
abbrev cc1_stg17_0 : Ref sig .tc := ⟨.vmem, 34, rfl⟩
abbrev cc1_stg17_1 : Ref sig .tc := ⟨.vmem, 35, rfl⟩
abbrev cc1_stg18_0 : Ref sig .tc := ⟨.vmem, 36, rfl⟩
abbrev cc1_stg18_1 : Ref sig .tc := ⟨.vmem, 37, rfl⟩
abbrev cc1_stg19_0 : Ref sig .tc := ⟨.vmem, 38, rfl⟩
abbrev cc1_stg19_1 : Ref sig .tc := ⟨.vmem, 39, rfl⟩
abbrev cc1_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31
abbrev cc1_sem16_0 : DmaSem sig := 32
abbrev cc1_sem16_1 : DmaSem sig := 33
abbrev cc1_sem17_0 : DmaSem sig := 34
abbrev cc1_sem17_1 : DmaSem sig := 35
abbrev cc1_sem18_0 : DmaSem sig := 36
abbrev cc1_sem18_1 : DmaSem sig := 37
abbrev cc1_sem19_0 : DmaSem sig := 38
abbrev cc1_sem19_1 : DmaSem sig := 39

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1280x1280 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1280 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1280 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1280x6912 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x3456 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x3456 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3456x1280 .fp8e4m3 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1280 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1280 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x1280 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x1280 .fp8e4m3 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1280 .fp8e4m3 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S256x3456 .fp8e4m3 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S256x1280 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]
-- ==== ReferenceIdeal.lean ====
abbrev S1280x8192 : Shape := ⟨2, ![1280, 8192]⟩
abbrev S8192x1280 : Shape := ⟨2, ![8192, 1280]⟩
abbrev S1280x1280 : Shape := ⟨2, ![1280, 1280]⟩
abbrev S1280 : Shape := ⟨1, ![1280]⟩
abbrev S640x3456 : Shape := ⟨2, ![640, 3456]⟩
abbrev S40x3456 : Shape := ⟨2, ![40, 3456]⟩
abbrev S3456 : Shape := ⟨1, ![3456]⟩
abbrev S3456x1280 : Shape := ⟨2, ![3456, 1280]⟩
abbrev S1x8192 : Shape := ⟨2, ![1, 8192]⟩
abbrev S8192x3456 : Shape := ⟨2, ![8192, 3456]⟩
abbrev S8192 : Shape := ⟨1, ![8192]⟩
abbrev S8192x1 : Shape := ⟨2, ![8192, 1]⟩
abbrev S1x1280 : Shape := ⟨2, ![1, 1280]⟩
abbrev S640x1x3456 : Shape := ⟨3, ![640, 1, 3456]⟩
abbrev S640x2x3456 : Shape := ⟨3, ![640, 2, 3456]⟩
abbrev S40x32x3456 : Shape := ⟨3, ![40, 32, 3456]⟩
abbrev S40x1x3456 : Shape := ⟨3, ![40, 1, 3456]⟩
abbrev S1280x3456 : Shape := ⟨2, ![1280, 3456]⟩
abbrev S1x3456 : Shape := ⟨2, ![1, 3456]⟩

abbrev nBuf : Space → Nat
  | .hbm => 23
  | .vmem => 23
  | .smem => 0
  | _ => 0

abbrev bufTy : (tb : Table) → Fin (tcTables nBuf tb) → BufTy
  | .hbm, ⟨0, _⟩ => ⟨S1280x8192, .f32⟩
  | .hbm, ⟨1, _⟩ => ⟨S8192x1280, .bf16⟩
  | .hbm, ⟨2, _⟩ => ⟨S1280x1280, .fp8e4m3⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S640x3456, .i8⟩
  | .hbm, ⟨7, _⟩ => ⟨S40x3456, .i8⟩
  | .hbm, ⟨8, _⟩ => ⟨S3456, .f32⟩
  | .hbm, ⟨9, _⟩ => ⟨S640x3456, .i8⟩
  | .hbm, ⟨10, _⟩ => ⟨S40x3456, .i8⟩
  | .hbm, ⟨11, _⟩ => ⟨S3456, .f32⟩
  | .hbm, ⟨12, _⟩ => ⟨S3456x1280, .fp8e4m3⟩
  | .hbm, ⟨13, _⟩ => ⟨S1280, .f32⟩
  | .hbm, ⟨14, _⟩ => ⟨S1280, .f32⟩
  | .hbm, ⟨15, _⟩ => ⟨S8192x1280, .f32⟩
  | .hbm, ⟨16, _⟩ => ⟨S8192x1280, .fp8e4m3⟩
  | .hbm, ⟨17, _⟩ => ⟨S1x8192, .f32⟩
  | .hbm, ⟨18, _⟩ => ⟨S8192x1280, .fp8e4m3⟩
  | .hbm, ⟨19, _⟩ => ⟨S1x8192, .f32⟩
  | .hbm, ⟨20, _⟩ => ⟨S8192x3456, .fp8e4m3⟩
  | .hbm, ⟨21, _⟩ => ⟨S1x8192, .f32⟩
  | .hbm, ⟨22, _⟩ => ⟨S8192x1280, .bf16⟩
  | .local _ .vmem, ⟨0, _⟩ => ⟨S1280x8192, .f32⟩
  | .local _ .vmem, ⟨1, _⟩ => ⟨S8192x1280, .bf16⟩
  | .local _ .vmem, ⟨2, _⟩ => ⟨S1280x1280, .fp8e4m3⟩
  | .local _ .vmem, ⟨3, _⟩ => ⟨S1280, .f32⟩
  | .local _ .vmem, ⟨4, _⟩ => ⟨S1280, .f32⟩
  | .local _ .vmem, ⟨5, _⟩ => ⟨S1280, .f32⟩
  | .local _ .vmem, ⟨6, _⟩ => ⟨S640x3456, .i8⟩
  | .local _ .vmem, ⟨7, _⟩ => ⟨S40x3456, .i8⟩
  | .local _ .vmem, ⟨8, _⟩ => ⟨S3456, .f32⟩
  | .local _ .vmem, ⟨9, _⟩ => ⟨S640x3456, .i8⟩
  | .local _ .vmem, ⟨10, _⟩ => ⟨S40x3456, .i8⟩
  | .local _ .vmem, ⟨11, _⟩ => ⟨S3456, .f32⟩
  | .local _ .vmem, ⟨12, _⟩ => ⟨S3456x1280, .fp8e4m3⟩
  | .local _ .vmem, ⟨13, _⟩ => ⟨S1280, .f32⟩
  | .local _ .vmem, ⟨14, _⟩ => ⟨S1280, .f32⟩
  | .local _ .vmem, ⟨15, _⟩ => ⟨S8192x1280, .f32⟩
  | .local _ .vmem, ⟨16, _⟩ => ⟨S8192x1280, .fp8e4m3⟩
  | .local _ .vmem, ⟨17, _⟩ => ⟨S1x8192, .f32⟩
  | .local _ .vmem, ⟨18, _⟩ => ⟨S8192x1280, .fp8e4m3⟩
  | .local _ .vmem, ⟨19, _⟩ => ⟨S1x8192, .f32⟩
  | .local _ .vmem, ⟨20, _⟩ => ⟨S8192x3456, .fp8e4m3⟩
  | .local _ .vmem, ⟨21, _⟩ => ⟨S1x8192, .f32⟩
  | .local _ .vmem, ⟨22, _⟩ => ⟨S8192x1280, .bf16⟩
  | _, _ => ⟨S1280x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S1280x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x3456 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x3456 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3456 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S640x3456 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x3456 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3456 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3456x1280 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8192x1280 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8192 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8192x1280 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8192x3456 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x8192 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8192x1280 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== QkvKernel.lean ====
abbrev S8192x1280 : Shape := ⟨2, ![8192, 1280]⟩
abbrev S1x1280 : Shape := ⟨2, ![1, 1280]⟩
abbrev S3840x1280 : Shape := ⟨2, ![3840, 1280]⟩
abbrev S3840x1 : Shape := ⟨2, ![3840, 1]⟩
abbrev S8192x80 : Shape := ⟨2, ![8192, 80]⟩
abbrev S1x8192 : Shape := ⟨2, ![1, 8192]⟩
abbrev S1280x8192 : Shape := ⟨2, ![1280, 8192]⟩
abbrev S48x8192 : Shape := ⟨2, ![48, 8192]⟩
abbrev S16x8192x128 : Shape := ⟨3, ![16, 8192, 128]⟩
abbrev S256x1280 : Shape := ⟨2, ![256, 1280]⟩
abbrev S256x80 : Shape := ⟨2, ![256, 80]⟩
abbrev S1x256 : Shape := ⟨2, ![1, 256]⟩
abbrev S1280x256 : Shape := ⟨2, ![1280, 256]⟩
abbrev S48x256 : Shape := ⟨2, ![48, 256]⟩
abbrev S16x256x128 : Shape := ⟨3, ![16, 256, 128]⟩
abbrev S3840x128 : Shape := ⟨2, ![3840, 128]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S80x256 : Shape := ⟨2, ![80, 256]⟩
abbrev S640x1280 : Shape := ⟨2, ![640, 1280]⟩
abbrev S640x256 : Shape := ⟨2, ![640, 256]⟩
abbrev S80x128 : Shape := ⟨2, ![80, 128]⟩
abbrev S1x128 : Shape := ⟨2, ![1, 128]⟩
abbrev S40x256 : Shape := ⟨2, ![40, 256]⟩
abbrev S1x256x128 : Shape := ⟨3, ![1, 256, 128]⟩
abbrev S16x8192x80 : Shape := ⟨3, ![16, 8192, 80]⟩

abbrev nBuf : Space → Nat
  | .hbm => 15
  | .vmem => 26
  | .smem => 0
  | _ => 0

abbrev bufTy : (tb : Table) → Fin (tcTables nBuf tb) → BufTy
  | .hbm, ⟨0, _⟩ => ⟨S8192x1280, .bf16⟩
  | .hbm, ⟨1, _⟩ => ⟨S1x1280, .f32⟩
  | .hbm, ⟨2, _⟩ => ⟨S3840x1280, .fp8e4m3⟩
  | .hbm, ⟨3, _⟩ => ⟨S3840x1, .f32⟩
  | .hbm, ⟨4, _⟩ => ⟨S3840x1, .f32⟩
  | .hbm, ⟨5, _⟩ => ⟨S8192x80, .f32⟩
  | .hbm, ⟨6, _⟩ => ⟨S8192x80, .f32⟩
  | .hbm, ⟨7, _⟩ => ⟨S1x8192, .i32⟩
  | .hbm, ⟨8, _⟩ => ⟨S8192x1280, .fp8e4m3⟩
  | .hbm, ⟨9, _⟩ => ⟨S1x8192, .f32⟩
  | .hbm, ⟨10, _⟩ => ⟨S1280x8192, .bf16⟩
  | .hbm, ⟨11, _⟩ => ⟨S48x8192, .bf16⟩
  | .hbm, ⟨12, _⟩ => ⟨S16x8192x128, .bf16⟩
  | .hbm, ⟨13, _⟩ => ⟨S1280x8192, .bf16⟩
  | .hbm, ⟨14, _⟩ => ⟨S16x8192x80, .bf16⟩
  | .local _ .vmem, ⟨0, _⟩ => ⟨S256x1280, .bf16⟩
  | .local _ .vmem, ⟨1, _⟩ => ⟨S256x1280, .bf16⟩
  | .local _ .vmem, ⟨2, _⟩ => ⟨S1x1280, .f32⟩
  | .local _ .vmem, ⟨3, _⟩ => ⟨S3840x1280, .fp8e4m3⟩
  | .local _ .vmem, ⟨4, _⟩ => ⟨S3840x1, .f32⟩
  | .local _ .vmem, ⟨5, _⟩ => ⟨S3840x1, .f32⟩
  | .local _ .vmem, ⟨6, _⟩ => ⟨S256x80, .f32⟩
  | .local _ .vmem, ⟨7, _⟩ => ⟨S256x80, .f32⟩
  | .local _ .vmem, ⟨8, _⟩ => ⟨S256x80, .f32⟩
  | .local _ .vmem, ⟨9, _⟩ => ⟨S256x80, .f32⟩
  | .local _ .vmem, ⟨10, _⟩ => ⟨S1x256, .i32⟩
  | .local _ .vmem, ⟨11, _⟩ => ⟨S1x256, .i32⟩
  | .local _ .vmem, ⟨12, _⟩ => ⟨S256x1280, .fp8e4m3⟩
  | .local _ .vmem, ⟨13, _⟩ => ⟨S256x1280, .fp8e4m3⟩
  | .local _ .vmem, ⟨14, _⟩ => ⟨S1x256, .f32⟩
  | .local _ .vmem, ⟨15, _⟩ => ⟨S1x256, .f32⟩
  | .local _ .vmem, ⟨16, _⟩ => ⟨S1280x256, .bf16⟩
  | .local _ .vmem, ⟨17, _⟩ => ⟨S1280x256, .bf16⟩
  | .local _ .vmem, ⟨18, _⟩ => ⟨S48x256, .bf16⟩
  | .local _ .vmem, ⟨19, _⟩ => ⟨S48x256, .bf16⟩
  | .local _ .vmem, ⟨20, _⟩ => ⟨S16x256x128, .bf16⟩
  | .local _ .vmem, ⟨21, _⟩ => ⟨S16x256x128, .bf16⟩
  | .local _ .vmem, ⟨22, _⟩ => ⟨S1280x256, .bf16⟩
  | .local _ .vmem, ⟨23, _⟩ => ⟨S1280x256, .bf16⟩
  | .local _ .vmem, ⟨24, _⟩ => ⟨S3840x128, .f32⟩
  | .local _ .vmem, ⟨25, _⟩ => ⟨S3840x128, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3840x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3840x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1280x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S48x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1280x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvReferenceIdeal.lean ====
abbrev S8192x1280 : Shape := ⟨2, ![8192, 1280]⟩
abbrev S1x1280 : Shape := ⟨2, ![1, 1280]⟩
abbrev S3840x1280 : Shape := ⟨2, ![3840, 1280]⟩
abbrev S3840x1 : Shape := ⟨2, ![3840, 1]⟩
abbrev S8192x80 : Shape := ⟨2, ![8192, 80]⟩
abbrev S1x8192 : Shape := ⟨2, ![1, 8192]⟩
abbrev S1280x8192 : Shape := ⟨2, ![1280, 8192]⟩
abbrev S16x8192x80 : Shape := ⟨3, ![16, 8192, 80]⟩
abbrev S1280 : Shape := ⟨1, ![1280]⟩
abbrev S8192 : Shape := ⟨1, ![8192]⟩
abbrev S8192x1 : Shape := ⟨2, ![8192, 1]⟩
abbrev S8192x3840 : Shape := ⟨2, ![8192, 3840]⟩
abbrev S1x3840 : Shape := ⟨2, ![1, 3840]⟩
abbrev S8192x3x16x80 : Shape := ⟨4, ![8192, 3, 16, 80]⟩
abbrev S8192x2x16x80 : Shape := ⟨4, ![8192, 2, 16, 80]⟩
abbrev S8192x1x1x80 : Shape := ⟨4, ![8192, 1, 1, 80]⟩
abbrev S8192x2x16x40 : Shape := ⟨4, ![8192, 2, 16, 40]⟩
abbrev S8192x1x16x80 : Shape := ⟨4, ![8192, 1, 16, 80]⟩
abbrev S8192x16x80 : Shape := ⟨3, ![8192, 16, 80]⟩

abbrev nBuf : Space → Nat
  | .hbm => 13
  | .vmem => 12
  | .smem => 0
  | _ => 0

abbrev bufTy : (tb : Table) → Fin (tcTables nBuf tb) → BufTy
  | .hbm, ⟨0, _⟩ => ⟨S8192x1280, .bf16⟩
  | .hbm, ⟨1, _⟩ => ⟨S1x1280, .f32⟩
  | .hbm, ⟨2, _⟩ => ⟨S3840x1280, .fp8e4m3⟩
  | .hbm, ⟨3, _⟩ => ⟨S3840x1, .f32⟩
  | .hbm, ⟨4, _⟩ => ⟨S3840x1, .f32⟩
  | .hbm, ⟨5, _⟩ => ⟨S8192x80, .f32⟩
  | .hbm, ⟨6, _⟩ => ⟨S8192x80, .f32⟩
  | .hbm, ⟨7, _⟩ => ⟨S1x8192, .i32⟩
  | .hbm, ⟨8, _⟩ => ⟨S8192x1280, .fp8e4m3⟩
  | .hbm, ⟨9, _⟩ => ⟨S1x8192, .f32⟩
  | .hbm, ⟨10, _⟩ => ⟨S1280x8192, .bf16⟩
  | .hbm, ⟨11, _⟩ => ⟨S16x8192x80, .bf16⟩
  | .hbm, ⟨12, _⟩ => ⟨S1280x8192, .bf16⟩
  | .local _ .vmem, ⟨0, _⟩ => ⟨S8192x1280, .bf16⟩
  | .local _ .vmem, ⟨1, _⟩ => ⟨S1x1280, .f32⟩
  | .local _ .vmem, ⟨2, _⟩ => ⟨S3840x1280, .fp8e4m3⟩
  | .local _ .vmem, ⟨3, _⟩ => ⟨S3840x1, .f32⟩
  | .local _ .vmem, ⟨4, _⟩ => ⟨S3840x1, .f32⟩
  | .local _ .vmem, ⟨5, _⟩ => ⟨S8192x80, .f32⟩
  | .local _ .vmem, ⟨6, _⟩ => ⟨S8192x80, .f32⟩
  | .local _ .vmem, ⟨7, _⟩ => ⟨S8192x1280, .fp8e4m3⟩
  | .local _ .vmem, ⟨8, _⟩ => ⟨S1x8192, .f32⟩
  | .local _ .vmem, ⟨9, _⟩ => ⟨S1280x8192, .bf16⟩
  | .local _ .vmem, ⟨10, _⟩ => ⟨S16x8192x80, .bf16⟩
  | .local _ .vmem, ⟨11, _⟩ => ⟨S1280x8192, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1280 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x8192x80 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1280x8192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KerBlk.lean ====
module

public import proofs.«01_k».proof.Proof.Gen.KernelIdeal.Frame
public import Idealize.ShloMosaic.Lib.Pipeline.Value
public import Idealize.ShloMosaic.Lib.ValueLayout
public import Idealize.ShloMosaic.Lib.Pointwise

/-! What one grid point of the MLP region leaves in its eight output blocks, as functions of its input blocks. The 27
activation tiles are cut out of one loop unrolled in the kernel; each is the same function of its column block. -/

@[expose] public section

noncomputable section

namespace Cert.KerBlk

open Idealize.ShloMosaic Idealize.ShloMosaic.TcCoe Idealize.SL.Sem Cert.KernelIdeal Cert.KernelIdeal.Gen

variable {F : FTy → Type} [FloatOps F]

theorem z2 : (![0, 0] : Fin 2 → Nat) = fun _ => 0 := funext fun a => by fin_cases a <;> rfl

theorem inW (n : Fin 27) : ∀ a, (![0, 256 * n.val] : Fin 2 → Nat) a + S1280x256.size a ≤ S1280x6912.size a := fun a => by
  have := n.isLt
  match a with
  | ⟨0, _⟩ => exact Nat.le_refl _
  | ⟨1, _⟩ => show 256 * n.val + 256 ≤ 6912; omega

theorem inB (n : Fin 27) : ∀ a, (![0, 128 * n.val] : Fin 2 → Nat) a + S1x128.size a ≤ S1x3456.size a := fun a => by
  have := n.isLt
  match a with
  | ⟨0, _⟩ => exact Nat.le_refl _
  | ⟨1, _⟩ => show 128 * n.val + 128 ≤ 3456; omega

theorem inA (n : Fin 27) : ∀ a, (![0, 128 * n.val] : Fin 2 → Nat) a + S256x128.size a ≤ S256x3456.size a := fun a => by
  have := n.isLt
  match a with
  | ⟨0, _⟩ => exact Nat.le_refl _
  | ⟨1, _⟩ => show 128 * n.val + 128 ≤ 3456; omega

/-- The columns of tile `n` in a row of 3456. -/
abbrev cols (n : Fin 27) : Rect S256x3456 := Rect.unit ![0, 128 * n.val] S256x128.size (inA n)

/-- Activation tile `n` of a row block: `sc` and `cd` are the block's scales and codes, `x6` the decoded weights with gate
    and up columns in turn, `x7` and `x8` the two biases. -/
def tile (sc : FVec F S256x1 .f32) (cd : FVec F S256x1280 .fp8e4m3) (x6 : Vec F S1280x6912 .bf16)
    (x7 x8 : Vec F S1x3456 .f32) (n : Fin 27) : FVec F S256x128 .f32 :=
  k1_pay22 sc (k1_pay13 cd) (View.ld x6 (Rect.unit ![0, 256 * n.val] S1280x256.size (inW n)))
    (View.ld x7 (Rect.unit ![0, 128 * n.val] S1x128.size (inB n)))
    (View.ld x8 (Rect.unit ![0, 128 * n.val] S1x128.size (inB n)))

/-- The running maximum of the absolute values of the first `n` tiles, from zero. -/
def runMax (t : Fin 27 → FVec F S256x128 .f32) : (n : Nat) → n ≤ 27 → FVec F S256x128 .f32
  | 0, _ => broadcast S256x128 (Scalar.ofBits .f32 0x00000000#32)
  | n + 1, h => maximumf (runMax t n (Nat.le_of_succ_le h)) (absf (t ⟨n, h⟩))

/-- The largest absolute value of each row of the 27 tiles. -/
def tmax (t : Fin 27 → FVec F S256x128 .f32) : FVec F S256x1 .f32 :=
  shapeCast S256x1 (multiReduction .maximumf [1] S256 (runMax t 27 (Nat.le_refl _)) 0xFF800000#32
    reduces_S256x128_S256 (.inl rfl) rfl) shapeCasts_S256_S256x1

/-- Whether each row's largest absolute value is positive. -/
def pos (t : Fin 27 → FVec F S256x128 .f32) : IVec S256x1 1 :=
  cmpf .ogt (tmax t) (broadcast S256x1 (Scalar.ofBits (F := F) .f32 0x00000000#32))

/-- Each row's largest absolute value over 448. -/
def quo (t : Fin 27 → FVec F S256x128 .f32) : FVec F S256x1 .f32 :=
  divf (tmax t) (broadcast S256x1 (Scalar.ofBits (F := F) .f32 0x43E00000#32))

/-- The tiles side by side. -/
def acts (t : Fin 27 → FVec F S256x128 .f32) : Vec F S256x3456 .f32 := fun i =>
  t ⟨(i 1).val / 128, by have := (i 1).isLt; change (i 1).val < 3456 at this; omega⟩
    (ix2 (i 0) ⟨(i 1).val % 128, Nat.mod_lt _ (by decide)⟩)

theorem acts_at (t : Fin 27 → FVec F S256x128 .f32) (n : Fin 27) (x : S256x128.Idx) :
    t n x = acts t ((cols n).emb x) := by
  obtain ⟨r, j, rfl⟩ : ∃ (r : Fin 256) (j : Fin 128), x = ix2 r j := ⟨x 0, x 1, ValueIdx.eq_ix2 x⟩
  have h0 : (cols n).emb (ix2 r j) 0 = r := Fin.ext (by show 0 + 1 * r.val = r.val; omega)
  have h1 : ((cols n).emb (ix2 r j) 1).val = 128 * n.val + j.val := by
    show 128 * n.val + 1 * j.val = _; omega
  have e0 : (⟨((cols n).emb (ix2 r j) 1).val / 128, by rw [h1]; have := n.isLt; have := j.isLt; omega⟩ : Fin 27) = n :=
    Fin.ext (by show ((cols n).emb (ix2 r j) 1).val / 128 = n.val; rw [h1]; have := j.isLt; omega)
  have e1 : (⟨((cols n).emb (ix2 r j) 1).val % 128, Nat.mod_lt _ (by decide)⟩ : Fin 128) = j :=
    Fin.ext (by show ((cols n).emb (ix2 r j) 1).val % 128 = j.val; rw [h1]; have := j.isLt; omega)
  show t n (ix2 r j) = t _ (ix2 ((cols n).emb (ix2 r j) 0) _)
  rw [e0, e1, h0]

theorem piece_at (t : Fin 27 → FVec F S256x128 .f32) (n : Fin 27) (x : S256x128.Idx) :
    shapeCast S256x128 (t n) shapeCasts_S256x128_S256x128 x = acts t ((cols n).emb x) :=
  (congrFun (shapeCast_self _ _) x).trans (acts_at t n x)

theorem idx_all (j : S256x3456.Idx) (inb) :
    ((Rect.unit (s := S256x3456) ![0, 0] S256x3456.size inb).toLoadRect).idx j = j := by
  funext a; apply Fin.ext
  match a with
  | ⟨0, _⟩ => show 0 + 1 * (j 0).val = (j 0).val; omega
  | ⟨1, _⟩ => show 0 + 1 * (j 1).val = (j 1).val; omega

variable (V : (c : Dev nD) → (b : Ref sig .tc) → Buf (Elt F) ((c : Thread nD τ).loc b)) (c : Dev nD) (t : Fin cfg1.N)

/-- The scales, the codes and the tiles of the block of point `t`. -/
abbrev lin0 : FVec F S256x1280 .f32 := k1_pay7 (iblk1 V c 0 t) (iblk1 V c 2 t) (iblk1 V c 3 t)
abbrev hid : FVec F S256x1280 .f32 := k1_pay6 (iblk1 V c 1 t)
abbrev scB : FVec F S256x1 .f32 := k1_pay10 (hid V c t) (lin0 V c t) (iblk1 V c 4 t) (iblk1 V c 5 t)
abbrev cdB : FVec F S256x1280 .fp8e4m3 := k1_pay11 (hid V c t) (lin0 V c t) (iblk1 V c 4 t) (iblk1 V c 5 t)
abbrev tl : Fin 27 → FVec F S256x128 .f32 := tile (scB V c t) (cdB V c t) (iblk1 V c 6 t) (iblk1 V c 7 t) (iblk1 V c 8 t)
abbrev one : F .f32 := FloatOps.ofBits .f32 0x3F800000#32

set_option maxHeartbeats 2000000 in
theorem o12 : (outsAt1 V c t).1 = k1_pay2 (iblk1 V c 0 t) := by
  dsimp only [outsAt1]
  unfold out1_A_12
  rw [View.read_writes_eq_canon _ _ _ (fun y => by apply cover1_A_12)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]

set_option maxHeartbeats 2000000 in
theorem o13 : (outsAt1 V c t).2.1 = k1_pay4 (iblk1 V c 0 t) := by
  dsimp only [outsAt1]
  unfold out1_A_13
  rw [View.read_writes_eq_canon _ _ _ (fun y => by apply cover1_A_13)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]

set_option maxHeartbeats 2000000 in
theorem o14 : (outsAt1 V c t).2.2.1 = k1_pay5 (iblk1 V c 0 t) := by
  dsimp only [outsAt1]
  unfold out1_A_14
  rw [View.read_writes_eq_canon _ _ _ (fun y => by apply cover1_A_14)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]

set_option maxHeartbeats 2000000 in
theorem o15 : (outsAt1 V c t).2.2.2.1 = k1_pay11 (hid V c t) (lin0 V c t) (iblk1 V c 4 t) (iblk1 V c 5 t) := by
  dsimp only [outsAt1]
  unfold out1_A_15
  rw [View.read_writes_eq_canon _ _ _ (fun y => by apply cover1_A_15)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]

set_option maxHeartbeats 2000000 in
theorem o16 : (outsAt1 V c t).2.2.2.2.1 = k1_pay12 (hid V c t) (lin0 V c t) (iblk1 V c 4 t) (iblk1 V c 5 t) := by
  dsimp only [outsAt1]
  unfold out1_A_16
  rw [View.read_writes_eq_canon _ _ _ (fun y => by apply cover1_A_16)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]

set_option maxHeartbeats 2000000 in
theorem o17 : (outsAt1 V c t).2.2.2.2.2.1 = k1_pay115 (pos (tl V c t)) (quo (tl V c t)) one (acts (tl V c t)) := by
  dsimp only [outsAt1]
  unfold out1_A_17
  rw [View.read_writes_eq_canon _ _ _ (fun y => by apply cover1_A_17)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]
  refine congr (congrArg₂ (fun a b => k1_pay115 (F := F) a b one) (?_ : _ = pos (tl V c t)) (?_ : _ = quo (tl V c t))) (?_ : _ = acts (tl V c t))
  · rfl
  · rfl
  · rw [View.readCov_eq_canon]
    · funext j
      refine (View.canon_apply_of_pieces (acts (tl V c t)) _ ?_ _ ?_).trans (congrArg _ (idx_all j _))
      · simp only [List.forall_mem_cons]
        exact ⟨piece_at (tl V c t) 26, piece_at (tl V c t) 25, piece_at (tl V c t) 24, piece_at (tl V c t) 23, piece_at (tl V c t) 22, piece_at (tl V c t) 21, piece_at (tl V c t) 20, piece_at (tl V c t) 19, piece_at (tl V c t) 18, piece_at (tl V c t) 17, piece_at (tl V c t) 16, piece_at (tl V c t) 15, piece_at (tl V c t) 14, piece_at (tl V c t) 13, piece_at (tl V c t) 12, piece_at (tl V c t) 11, piece_at (tl V c t) 10, piece_at (tl V c t) 9, piece_at (tl V c t) 8, piece_at (tl V c t) 7, piece_at (tl V c t) 6, piece_at (tl V c t) 5, piece_at (tl V c t) 4, piece_at (tl V c t) 3, piece_at (tl V c t) 2, piece_at (tl V c t) 1, piece_at (tl V c t) 0, fun _ h => absurd h List.not_mem_nil⟩
      · exact View.cover_of_tiledL (s := S256x3456) _ ![256, 128] (by sl_kernel_rfl) _
    · intro j
      exact View.cover_of_tiledL (s := S256x3456) _ ![256, 128] (by sl_kernel_rfl) _

set_option maxHeartbeats 2000000 in
theorem o18 : (outsAt1 V c t).2.2.2.2.2.2.1 = k1_pay114 (pos (tl V c t)) (quo (tl V c t)) one := by
  dsimp only [outsAt1]
  unfold out1_A_18
  rw [View.read_writes_eq_canon _ _ _ (fun y => by apply cover1_A_18)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]
  refine congrArg₂ (fun a b => k1_pay114 (F := F) a b one) (?_ : _ = pos (tl V c t)) (?_ : _ = quo (tl V c t))
  · rfl
  · rfl

set_option maxHeartbeats 2000000 in
theorem o19 : (outsAt1 V c t).2.2.2.2.2.2.2 = k1_pay1 (k1_pay8 (hid V c t) (lin0 V c t) (iblk1 V c 4 t)) (k1_pay116 (pos (tl V c t)) (quo (tl V c t)) one (acts (tl V c t)) (iblk1 V c 9 t) (iblk1 V c 10 t)) (iblk1 V c 11 t) := by
  dsimp only [outsAt1]
  unfold out1_A_19
  rw [View.read_writes_eq_canon _ _ _ (fun y => by apply cover1_A_19)]
  unfold kernelRun1_A; dsimp only; sl_unfold_words
  rw [View.canon_unit_zero z2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, View.ld_unit_zero (S := S1280x256) z2, View.ld_unit_zero (S := S256x1280) z2, View.ld_unit_zero (S := S1280x1280) z2, View.ld_unit_zero (S := S1x1280) z2, View.ld_unit_zero (S := S3456x1280) z2]
  refine congrArg (fun v => k1_pay1 (F := F) (k1_pay8 (hid V c t) (lin0 V c t) (iblk1 V c 4 t)) v (iblk1 V c 11 t)) (congr (congr (congr
    (congrArg₂ (fun a b => k1_pay116 (F := F) a b one) (?_ : _ = pos (tl V c t)) (?_ : _ = quo (tl V c t))) (?_ : _ = acts (tl V c t))) rfl) rfl)
  · rfl
  · rfl
  · rw [View.readCov_eq_canon]
    · funext j
      refine (View.canon_apply_of_pieces (acts (tl V c t)) _ ?_ _ ?_).trans (congrArg _ (idx_all j _))
      · simp only [List.forall_mem_cons]
        exact ⟨piece_at (tl V c t) 26, piece_at (tl V c t) 25, piece_at (tl V c t) 24, piece_at (tl V c t) 23, piece_at (tl V c t) 22, piece_at (tl V c t) 21, piece_at (tl V c t) 20, piece_at (tl V c t) 19, piece_at (tl V c t) 18, piece_at (tl V c t) 17, piece_at (tl V c t) 16, piece_at (tl V c t) 15, piece_at (tl V c t) 14, piece_at (tl V c t) 13, piece_at (tl V c t) 12, piece_at (tl V c t) 11, piece_at (tl V c t) 10, piece_at (tl V c t) 9, piece_at (tl V c t) 8, piece_at (tl V c t) 7, piece_at (tl V c t) 6, piece_at (tl V c t) 5, piece_at (tl V c t) 4, piece_at (tl V c t) 3, piece_at (tl V c t) 2, piece_at (tl V c t) 1, piece_at (tl V c t) 0, fun _ h => absurd h List.not_mem_nil⟩
      · exact View.cover_of_tiledL (s := S256x3456) _ ![256, 128] (by sl_kernel_rfl) _
    · intro j
      exact View.cover_of_tiledL (s := S256x3456) _ ![256, 128] (by sl_kernel_rfl) _

end Cert.KerBlk
-- ==== Proof.Chunks.lean ====
module

public import Idealize.ShloMosaic.Lib.Pointwise
public import Idealize.ShloMosaic.Lib.ValueLayout
public import Idealize.ShloMosaic.Lib.ValueLayoutCasts
public import Idealize.ShloMosaic.Lib.MatmulPlain

/-! The row mathematics of the second half of a transformer block (`amax`, `scl`, `cod`, `lin`,
`rms`, `gate`, `act` on one row of numbers), and the vector operations that compute it on `n` rows
at once, each read at one index. The number of rows is a variable: the kernel's blocks have 256 of
them and the reference 8192. -/

@[expose] public section

noncomputable section

namespace Cert.Row

open Idealize.ShloMosaic

/-! ## One row -/

/-- Largest magnitude of a row. -/
def amax {k : Nat} (v : Fin k → EReal) : EReal :=
  Finset.univ.fold max (Ideal.ofBits .f32 0xFF800000#32) fun j => FloatOps.absf (F := Ideal) (φ := .f32) (v j)

/-- The scale belonging to a largest magnitude: a 448th of it, or one for a row of zeros. -/
def sclOf (a : EReal) : EReal :=
  if 0 < a then Ideal.div a (Ideal.ofBits .f32 0x43E00000#32) else 1

/-- The scale of a row. -/
def scl {k : Nat} (v : Fin k → EReal) : EReal := sclOf (amax v)

/-- One number over its scale, clipped to the format's range. -/
def clip (x s : EReal) : EReal :=
  min (Ideal.ofBits .f32 0x43E00000#32) (max (Ideal.ofBits .f32 0xC3E00000#32) (Ideal.div x s))

/-- The codes of a row. -/
def cod {k : Nat} (v : Fin k → EReal) (j : Fin k) : EReal := clip (v j) (scl v)

/-- A row times column `j` of a matrix. -/
def dot {k m : Nat} (c : Fin k → EReal) (w : Fin k → Fin m → EReal) (j : Fin m) : EReal := ∑ i, c i * w i j

/-- A quantised row through a linear layer, added to a residual. -/
def res {k m : Nat} (h : Fin m → EReal) (v : Fin k → EReal) (w : Fin k → Fin m → EReal) (s b : Fin m → EReal)
    (j : Fin m) : EReal := h j + (dot (cod v) w j * scl v * s j + b j)

/-- The normalised row. -/
def rms (v g : Fin 1280 → EReal) (j : Fin 1280) : EReal :=
  Ideal.div (v j) (FloatOps.sqrt (F := Ideal) (φ := .f32) (Ideal.div (∑ i, v i * v i) (Ideal.ofBits .f32 0x44A00000#32)
    + Ideal.ofBits .f32 0x358637BD#32)) * g j

/-- One entry of the gate (or up) projection of a quantised row. -/
def gate {k m : Nat} (v : Fin k → EReal) (w : Fin k → Fin m → EReal) (b : Fin m → EReal) (j : Fin m) : EReal :=
  dot (cod v) w j * scl v + b j

/-- The activation: SiLU of the gate, times the up projection. -/
def act (g u : EReal) : EReal := g * FloatOps.logistic (F := Ideal) (φ := .f32) g * u

/-! ## `n` rows at once -/

abbrev M (n k : Nat) : Shape := ⟨2, ![n, k]⟩
abbrev V1 (n : Nat) : Shape := ⟨1, ![n]⟩

variable {n k m : Nat}

/-- Row `i` of a matrix. -/
def row {φ : FTy} (v : FVec Ideal (M n k) φ) (i : Fin n) (j : Fin k) : EReal := v (ix2 i j)
/-- A matrix as a function of two indices. -/
def mat {φ : FTy} (v : FVec Ideal (M n k) φ) (i : Fin n) (j : Fin k) : EReal := v (ix2 i j)

theorem col_apply {α : Type} (v : (M n 1).Idx → α) (h : (M n 1).Broadcasts (M n m)) (i : Fin n) (j : Fin m) :
    broadcastTo (M n m) v h (ix2 i j) = v (ix2 i 0) := by
  refine broadcastTo_apply v h (ix2 i j) (ix2 i 0) fun ax => ?_
  match ax with
  | ⟨0, _⟩ =>
    by_cases hn : n = 1
    · subst hn; have := i.isLt; simp
    · simp [hn]
  | ⟨1, _⟩ => simp

theorem row_apply {α : Type} (v : (M 1 m).Idx → α) (h : (M 1 m).Broadcasts (M n m)) (i : Fin n) (j : Fin m) :
    broadcastTo (M n m) v h (ix2 i j) = v (ix2 0 j) := by
  refine broadcastTo_apply v h (ix2 i j) (ix2 0 j) fun ax => ?_
  match ax with
  | ⟨0, _⟩ => simp
  | ⟨1, _⟩ =>
    by_cases hn : m = 1
    · subst hn; have := j.isLt; simp
    · simp [hn]

theorem cast_apply {α : Type} (v : (V1 n).Idx → α) (h : (V1 n).ShapeCasts (M n 1)) (i : Fin n) (z : Fin 1) :
    shapeCast (M n 1) v h (ix2 i z) = v (ix1 i) := ValueIdx.shapeCast_a_a1_apply v h i z

def scaleOfV (a : FVec Ideal (M n 1) .f32) : FVec Ideal (M n 1) .f32 :=
  select (cmpf .ogt a (broadcast (M n 1) (Scalar.ofBits .f32 0x00000000#32)))
    (divf a (broadcast (M n 1) (Scalar.ofBits .f32 0x43E00000#32))) (broadcast (M n 1) (Scalar.ofBits .f32 0x3F800000#32))

theorem scaleOfV_apply (a : FVec Ideal (M n 1) .f32) (i : Fin n) (z : Fin 1) :
    scaleOfV a (ix2 i z) = sclOf (a (ix2 i z)) := by
  unfold sclOf
  pointwise [scaleOfV]

def amaxV (hr : (M n k).Reduces [1] (V1 n)) (hc : (V1 n).ShapeCasts (M n 1)) (v : FVec Ideal (M n k) .f32) :
    FVec Ideal (M n 1) .f32 :=
  shapeCast (M n 1) (multiReduction .maximumf [1] (V1 n) (absf v) 0xFF800000#32 hr (.inl rfl) rfl) hc

theorem amaxV_apply (hr : (M n k).Reduces [1] (V1 n)) (hc : (V1 n).ShapeCasts (M n 1)) (v : FVec Ideal (M n k) .f32)
    (i : Fin n) (z : Fin 1) : amaxV hr hc v (ix2 i z) = amax (row v i) := by
  unfold amaxV amax row
  rw [cast_apply]
  pointwise []

def codesV (hb : (M n 1).Broadcasts (M n k)) (hl : FTy.bits .fp8e4m3 < FTy.bits .f32)
    (v : FVec Ideal (M n k) .f32) (s : FVec Ideal (M n 1) .f32) : FVec Ideal (M n k) .fp8e4m3 :=
  truncf .fp8e4m3 (minimumf (broadcast (M n k) (Scalar.ofBits .f32 0x43E00000#32))
    (maximumf (broadcast (M n k) (Scalar.ofBits .f32 0xC3E00000#32)) (divf v (broadcastTo (M n k) s hb)))) hl

theorem codesV_apply (hb : (M n 1).Broadcasts (M n k)) (hl : FTy.bits .fp8e4m3 < FTy.bits .f32)
    (v : FVec Ideal (M n k) .f32) (s : FVec Ideal (M n 1) .f32) (i : Fin n) (j : Fin k) :
    codesV hb hl v s (ix2 i j) = clip (v (ix2 i j)) (s (ix2 i 0)) := by
  unfold codesV clip
  rw [← col_apply s hb i j]
  pointwise []

/-- Plain matrix product dimensions. -/
abbrev dd (wf : DotDims.WF (M n k) (M k m) (M n m) [1] [0] [0] [1] [] []) : DotDims (M n k) (M k m) (M n m) where
  lhsContracting := [1]
  rhsContracting := [0]
  lhsNonContracting := [0]
  rhsNonContracting := [1]
  lhsBatch := []
  rhsBatch := []
  wf := wf

theorem mat_apply {φ₁ φ₂ : FTy} (wf : DotDims.WF (M n k) (M k m) (M n m) [1] [0] [0] [1] [] [])
    (c : FVec Ideal (M n k) φ₁) (w : FVec Ideal (M k m) φ₂) (i : Fin n) (j : Fin m) :
    matmul (dd wf) none c w (constant (M n m) .f32 0x00000000#32) (ix2 i j) = dot (row c i) (mat w) j := by
  unfold dot row mat
  refine (Ideal.matmul_plain_apply none c w _ i j).trans ?_
  rw [show (constant (F := Ideal) (M n m) .f32 0x00000000#32) (ValueIdx.ix2 i j) = 0 by pointwise [], zero_add]
  rfl

def linV (hb : (M n 1).Broadcasts (M n m)) (hs : (M 1 m).Broadcasts (M n m)) (a : FVec Ideal (M n m) .f32)
    (s : FVec Ideal (M n 1) .f32) (r : FVec Ideal (M 1 m) .f32) : FVec Ideal (M n m) .f32 :=
  mulf (mulf a (broadcastTo (M n m) s hb)) (broadcastTo (M n m) r hs)

theorem linV_apply (hb : (M n 1).Broadcasts (M n m)) (hs : (M 1 m).Broadcasts (M n m)) (a : FVec Ideal (M n m) .f32)
    (s : FVec Ideal (M n 1) .f32) (r : FVec Ideal (M 1 m) .f32) (i : Fin n) (j : Fin m) :
    linV hb hs a s r (ix2 i j) = a (ix2 i j) * s (ix2 i 0) * r (ix2 0 j) := by
  unfold linV
  rw [← col_apply s hb i j, ← row_apply r hs i j]
  rfl

def addV (hs : (M 1 m).Broadcasts (M n m)) (h l : FVec Ideal (M n m) .f32) (r : FVec Ideal (M 1 m) .f32)
    (hl : FTy.bits .bf16 < FTy.bits .f32) : FVec Ideal (M n m) .bf16 :=
  truncf .bf16 (addf h (addf l (broadcastTo (M n m) r hs))) hl

theorem addV_apply (hs : (M 1 m).Broadcasts (M n m)) (h l : FVec Ideal (M n m) .f32) (r : FVec Ideal (M 1 m) .f32)
    (hl : FTy.bits .bf16 < FTy.bits .f32) (i : Fin n) (j : Fin m) :
    addV hs h l r hl (ix2 i j) = h (ix2 i j) + (l (ix2 i j) + r (ix2 0 j)) := by
  unfold addV
  rw [← row_apply r hs i j]
  rfl

def rmsV (hr : (M n 1280).Reduces [1] (V1 n)) (hc : (V1 n).ShapeCasts (M n 1)) (hb : (M n 1).Broadcasts (M n 1280))
    (hs : (M 1 1280).Broadcasts (M n 1280)) (v : FVec Ideal (M n 1280) .f32) (g : FVec Ideal (M 1 1280) .f32) :
    FVec Ideal (M n 1280) .f32 :=
  mulf (divf v (broadcastTo (M n 1280) (sqrt (addf (divf (shapeCast (M n 1)
    (multiReduction .add [1] (V1 n) (mulf v v) 0x00000000#32 hr (.inl rfl) rfl) hc)
      (broadcast (M n 1) (Scalar.ofBits .f32 0x44A00000#32))) (broadcast (M n 1) (Scalar.ofBits .f32 0x358637BD#32)))) hb))
    (broadcastTo (M n 1280) g hs)

theorem rmsV_apply (hr : (M n 1280).Reduces [1] (V1 n)) (hc : (V1 n).ShapeCasts (M n 1))
    (hb : (M n 1).Broadcasts (M n 1280)) (hs : (M 1 1280).Broadcasts (M n 1280)) (v : FVec Ideal (M n 1280) .f32)
    (g : FVec Ideal (M 1 1280) .f32) (i : Fin n) (j : Fin 1280) :
    rmsV hr hc hb hs v g (ix2 i j) = rms (row v i) (row g 0) j := by
  unfold rmsV rms row
  rw [← row_apply g hs i j, mulf_apply, divf_apply, col_apply, sqrt_apply, addf_apply, divf_apply,
    cast_apply]
  pointwise []

def gateV (hb : (M n 1).Broadcasts (M n m)) (hs : (M 1 m).Broadcasts (M n m)) (a : FVec Ideal (M n m) .f32)
    (s : FVec Ideal (M n 1) .f32) (r : FVec Ideal (M 1 m) .f32) : FVec Ideal (M n m) .f32 :=
  addf (mulf a (broadcastTo (M n m) s hb)) (broadcastTo (M n m) r hs)

theorem gateV_apply (hb : (M n 1).Broadcasts (M n m)) (hs : (M 1 m).Broadcasts (M n m)) (a : FVec Ideal (M n m) .f32)
    (s : FVec Ideal (M n 1) .f32) (r : FVec Ideal (M 1 m) .f32) (i : Fin n) (j : Fin m) :
    gateV hb hs a s r (ix2 i j) = a (ix2 i j) * s (ix2 i 0) + r (ix2 0 j) := by
  unfold gateV
  rw [← col_apply s hb i j, ← row_apply r hs i j]
  rfl

def actV (g u : FVec Ideal (M n m) .f32) : FVec Ideal (M n m) .f32 := mulf (mulf g (logistic g)) u

theorem actV_apply (g u : FVec Ideal (M n m) .f32) (i : Fin n) (j : Fin m) :
    actV g u (ix2 i j) = act (g (ix2 i j)) (u (ix2 i j)) := by
  unfold act
  pointwise [actV]

/-! ## Rows of the compositions -/

/-- The scales of the rows of a matrix. -/
abbrev scaleV (hr : (M n k).Reduces [1] (V1 n)) (hc : (V1 n).ShapeCasts (M n 1)) (v : FVec Ideal (M n k) .f32) :
    FVec Ideal (M n 1) .f32 := scaleOfV (amaxV hr hc v)

theorem scaleV_apply (hr : (M n k).Reduces [1] (V1 n)) (hc : (V1 n).ShapeCasts (M n 1)) (v : FVec Ideal (M n k) .f32)
    (i : Fin n) (z : Fin 1) : scaleV hr hc v (ix2 i z) = scl (row v i) := by
  unfold scaleV scl
  rw [scaleOfV_apply, amaxV_apply]

theorem codes_row (hb : (M n 1).Broadcasts (M n k)) (hl : FTy.bits .fp8e4m3 < FTy.bits .f32)
    (v : FVec Ideal (M n k) .f32) (s : FVec Ideal (M n 1) .f32) (i : Fin n) (hs : s (ix2 i 0) = scl (row v i)) :
    row (codesV hb hl v s) i = cod (row v i) := by
  funext j
  show codesV hb hl v s (ix2 i j) = _
  rw [codesV_apply, hs]
  rfl

theorem linear_row {φ₁ φ₂ : FTy} (wf : DotDims.WF (M n k) (M k m) (M n m) [1] [0] [0] [1] [] [])
    (hb : (M n 1).Broadcasts (M n m)) (hs hs' : (M 1 m).Broadcasts (M n m)) (hl : FTy.bits .bf16 < FTy.bits .f32)
    (h : FVec Ideal (M n m) .f32) (c : FVec Ideal (M n k) φ₁) (w : FVec Ideal (M k m) φ₂) (s : FVec Ideal (M n 1) .f32)
    (r b : FVec Ideal (M 1 m) .f32) (v : Fin k → EReal) (i : Fin n) (hc : row c i = cod v) (hv : s (ix2 i 0) = scl v) :
    row (addV hs' h (linV hb hs (matmul (dd wf) none c w (constant (M n m) .f32 0x00000000#32)) s r) b hl) i
      = res (row h i) v (mat w) (row r 0) (row b 0) := by
  funext j
  show addV hs' h _ b hl (ix2 i j) = _
  rw [addV_apply, linV_apply, mat_apply, hc, hv]
  rfl

theorem gate_row {φ₁ φ₂ : FTy} (wf : DotDims.WF (M n k) (M k m) (M n m) [1] [0] [0] [1] [] [])
    (hb : (M n 1).Broadcasts (M n m)) (hs : (M 1 m).Broadcasts (M n m)) (c : FVec Ideal (M n k) φ₁)
    (w : FVec Ideal (M k m) φ₂) (s : FVec Ideal (M n 1) .f32) (b : FVec Ideal (M 1 m) .f32) (v : Fin k → EReal)
    (i : Fin n) (hc : row c i = cod v) (hv : s (ix2 i 0) = scl v) :
    row (gateV hb hs (matmul (dd wf) none c w (constant (M n m) .f32 0x00000000#32)) s b) i
      = gate v (mat w) (row b 0) := by
  funext j
  show gateV hb hs _ s b (ix2 i j) = _
  rw [gateV_apply, mat_apply, hc, hv]
  rfl

theorem rms_row (hr : (M n 1280).Reduces [1] (V1 n)) (hc : (V1 n).ShapeCasts (M n 1))
    (hb : (M n 1).Broadcasts (M n 1280)) (hs : (M 1 1280).Broadcasts (M n 1280)) (v : FVec Ideal (M n 1280) .f32)
    (g : FVec Ideal (M 1 1280) .f32) (i : Fin n) : row (rmsV hr hc hb hs v g) i = rms (row v i) (row g 0) := by
  funext j
  exact rmsV_apply hr hc hb hs v g i j

theorem act_row (g u : FVec Ideal (M n m) .f32) (i : Fin n) :
    row (actV g u) i = fun j => act (row g i j) (row u i j) := by
  funext j
  exact actV_apply g u i j

end Cert.Row
-- ==== Proof.Weights.lean ====
module

public import Idealize.ShloMosaic.Lib.Pointwise
public import Idealize.ShloMosaic.Lib.BitcastFour

/-! One MXFP4 weight. A byte holds two E2M1 codes, the low half first; `e2m1` is the value of a
code, read off its bits, and `e8m0` the value of a block's exponent byte. The second half of the
file reads the kernel's way of decoding them: it moves the two halves of all four bytes of a word at
once into the sign, exponent and mantissa fields of an FP8 (E4M3) number, which is then a 64th of
the E2M1 value, and reads the exponent byte in the exponent field of a float32. -/

@[expose] public section

noncomputable section

namespace Cert.Fp4

open Idealize.ShloMosaic

/-! ## The values -/

/-- Is a bit (or any of the bits of a mask) set. -/
abbrev bit (n b : BitVec 32) : BitVec 1 := IntOp.cmpi .ne (IntOp.andi n b) 0#32

/-- The magnitude of an E2M1 code. -/
def mag (n : BitVec 32) : EReal :=
  Scalar.select (bit n 4#32)
    (Scalar.select (bit n 2#32)
      (Scalar.select (bit n 1#32) (Ideal.ofBits .bf16 0x40C0#16) (Ideal.ofBits .bf16 0x4080#16))
      (Scalar.select (bit n 1#32) (Ideal.ofBits .bf16 0x4040#16) (Ideal.ofBits .bf16 0x4000#16)))
    (Scalar.select (bit n 2#32)
      (Scalar.select (bit n 1#32) (Ideal.ofBits .bf16 0x3FC0#16) 1)
      (Scalar.select (bit n 1#32) (Ideal.ofBits .bf16 0x3F00#16) 0))

/-- The value of an E2M1 code. -/
def e2m1 (n : BitVec 32) : EReal := Scalar.select (bit n 8#32) (0 - mag n) (mag n)

/-- The value of an E8M0 exponent byte, through float32. -/
def e8m0 (e : BitVec 8) : EReal :=
  Scalar.select (IntOp.cmpi .eq (e.setWidth 32) 0#32) (0 : EReal)
    (Scalar.select (IntOp.cmpi .eq (e.setWidth 32) 255#32) (Ideal.ofBits .f32 0x7F800000#32)
      (FloatOps.exp2 (F := Ideal) (φ := .f32) (FloatOps.sitofp .f32 (IntOp.subi (e.setWidth 32) 127#32))))

/-- The low and the high half of a byte. -/
def nibLo (p : BitVec 8) : BitVec 32 := IntOp.andi (p.setWidth 32) 15#32
def nibHi (p : BitVec 8) : BitVec 32 := IntOp.andi (IntOp.shrsi .vector (p.setWidth 32) 4#32) 15#32

/-- The weight at row `k` of a column: row `k / 2` of the packed codes, its low half at even `k`,
times the exponent of the block of 32 rows it lies in. -/
def weight {f : Nat} (p : Fin 640 → Fin f → BitVec 8) (e : Fin 40 → Fin f → BitVec 8) (k : Fin 1280) (j : Fin f) : EReal :=
  e2m1 (if k.val % 2 < 1 then nibLo (p ⟨k.val / 2, by omega⟩ j) else nibHi (p ⟨k.val / 2, by omega⟩ j))
    * e8m0 (e ⟨k.val / 32, by omega⟩ j)

/-! ## The exponent byte in a float32 -/

theorem e8_sign : ∀ e : BitVec 8, ((IntOp.shli .vector (e.setWidth 32) 23#32).extractLsb' 31 1 == 1#1) = false := by
  decide +kernel
theorem e8_exp : ∀ e : BitVec 8, (IntOp.shli .vector (e.setWidth 32) 23#32).extractLsb' 23 8 = e := by decide +kernel
theorem e8_frac : ∀ e : BitVec 8, (IntOp.shli .vector (e.setWidth 32) 23#32).extractLsb' 0 23 = 0#23 := by
  decide +kernel
theorem e8_int : ∀ e : BitVec 8, (IntOp.subi (e.setWidth 32) 127#32).toInt = (e.toNat : Int) - 127 := by decide +kernel
theorem e8_zero : ∀ e : BitVec 8, e ≠ 0#8 → IntOp.cmpi .eq (e.setWidth 32) 0#32 = 0#1 := by decide +kernel
theorem e8_top : ∀ e : BitVec 8, e ≠ 255#8 → IntOp.cmpi .eq (e.setWidth 32) 255#32 = 0#1 := by decide +kernel

/-- An exponent byte shifted into a float32's exponent field reads as its E8M0 value. -/
theorem ofBits_exponent (e : BitVec 8) : Ideal.ofBits .f32 (IntOp.shli .vector (e.setWidth 32) 23#32) = e8m0 e := by
  by_cases h0 : e = 0#8
  · subst h0
    rw [show IntOp.shli .vector ((0#8).setWidth 32) 23#32 = 0#32 by decide +kernel]
    simp [e8m0, Ideal.ofBits, Ideal.ieee, IntOp.cmpi, Scalar.select]
  by_cases h1 : e = 255#8
  · subst h1
    rw [show IntOp.shli .vector ((255#8).setWidth 32) 23#32 = 0x7F800000#32 by decide +kernel]
    simp [e8m0, IntOp.cmpi, Scalar.select]
  · have n0 : e.toNat ≠ 0 := fun h => h0 (BitVec.eq_of_toNat_eq h)
    have n1 : e.toNat ≠ 255 := fun h => h1 (BitVec.eq_of_toNat_eq h)
    unfold e8m0
    rw [e8_zero e h0, e8_top e h1]
    show Ideal.ieee 8 23 _ = Ideal.exp2 (((IntOp.subi (e.setWidth 32) 127#32).toInt : ℝ) : EReal)
    rw [e8_int]
    unfold Ideal.ieee
    simp only [Nat.reduceAdd, e8_sign, e8_exp, e8_frac, Bool.false_eq_true, if_false]
    rw [if_neg (by omega), if_neg n0, Ideal.exp2_coe]
    congr 1
    simp only [BitVec.toNat_ofNat, Nat.zero_mod, Nat.add_zero, one_mul]
    show _ = (2 : ℝ) ^ ((((e.toNat : Int) - 127 : Int) : ℝ))
    rw [Real.rpow_intCast]
    push_cast
    rw [show (8388608 : ℝ) = 2 ^ (23 : ℤ) by norm_num, ← zpow_add₀ (by norm_num)]
    congr 1
    ring

/-! ## The codes in an FP8 number -/

/-- A byte's low code in FP8 fields: the sign bit on top, the three others around the mantissa's top. -/
def fpLo (x : BitVec 8) : BitVec 8 := (x &&& 8#8) <<< 4 ||| (x &&& 7#8) <<< 2
/-- A byte's high code likewise. -/
def fpHi (x : BitVec 8) : BitVec 8 := (x &&& 128#8) ||| (x &&& 112#8) >>> 2

/-- A code in FP8 fields, from its four bits. -/
def fp (n : BitVec 4) : BitVec 8 := fpLo (n.setWidth 8)

theorem fpLo_eq : ∀ x : BitVec 8, fpLo x = fp (x.setWidth 4) := by decide +kernel
theorem fpHi_eq : ∀ x : BitVec 8, fpHi x = fp ((x >>> 4).setWidth 4) := by decide +kernel
theorem nibLo_eq : ∀ x : BitVec 8, nibLo x = (x.setWidth 4).setWidth 32 := by decide +kernel
theorem nibHi_eq : ∀ x : BitVec 8, nibHi x = ((x >>> 4).setWidth 4).setWidth 32 := by decide +kernel

/-- The FP8 number is a 64th of the code's value. -/
theorem fp_value (n : BitVec 4) : Ideal.ofBits .fp8e4m3 (fp n) * Ideal.ofBits .bf16 0x4280#16 = e2m1 (n.setWidth 32) := by
  have hn := n.isLt
  obtain ⟨⟨v, hv⟩⟩ := n
  simp at hn
  interval_cases v <;>
    (simp [fp, fpLo, e2m1, mag, bit, Ideal.ofBits, Ideal.ieee, Ideal.e4m3fn, IntOp.cmpi, IntOp.andi, Scalar.select, -EReal.coe_mul] <;> norm_num [← EReal.coe_mul])

theorem lo_value (x : BitVec 8) : Ideal.ofBits .fp8e4m3 (fpLo x) * Ideal.ofBits .bf16 0x4280#16 = e2m1 (nibLo x) := by
  rw [fpLo_eq, fp_value, nibLo_eq]
theorem hi_value (x : BitVec 8) : Ideal.ofBits .fp8e4m3 (fpHi x) * Ideal.ofBits .bf16 0x4280#16 = e2m1 (nibHi x) := by
  rw [fpHi_eq, fp_value, nibHi_eq]

/-! ## Four bytes of a word at once -/

/-- The kernel's word operations for the low codes of four bytes, and for the high ones. -/
def wLo (w : BitVec 32) : BitVec 32 :=
  IntOp.ori (IntOp.shli .vector (IntOp.andi w 134744072#32) 4#32) (IntOp.shli .vector (IntOp.andi w 117901063#32) 2#32)
def wHi (w : BitVec 32) : BitVec 32 :=
  IntOp.ori (IntOp.andi w 2155905152#32) (IntOp.shrsi .vector (IntOp.andi w 1886417008#32) 2#32)

theorem wLo_bit (w : BitVec 32) (x : BitVec 8) (b : Nat) (hb : b < 4) (h : ∀ t, t < 8 → w.getLsbD (8 * b + t) = x.getLsbD t)
    (q : Nat) (hq : q < 8) : (wLo w).getLsbD (8 * b + q) = (fpLo x).getLsbD q := by
  have h0 := h 0 (by omega); have h1 := h 1 (by omega); have h2 := h 2 (by omega); have h3 := h 3 (by omega)
  simp only [wLo, fpLo, IntOp.ori, IntOp.andi, IntOp.shli]
  interval_cases b <;> interval_cases q <;> simp_all

theorem wHi_bit (w : BitVec 32) (x : BitVec 8) (b : Nat) (hb : b < 4) (h : ∀ t, t < 8 → w.getLsbD (8 * b + t) = x.getLsbD t)
    (q : Nat) (hq : q < 8) : (wHi w).getLsbD (8 * b + q) = (fpHi x).getLsbD q := by
  have h0 := h 4 (by omega); have h1 := h 5 (by omega); have h2 := h 6 (by omega); have h3 := h 7 (by omega)
  have hs : IntOp.shrsi .vector (w &&& 1886417008#32) 2#32 = (w &&& 1886417008#32) >>> 2 := by
    show (w &&& 1886417008#32).sshiftRight 2 = _
    exact BitVec.sshiftRight_eq_of_msb_false (by simp [BitVec.msb_eq_getLsbD_last])
  simp only [wHi, fpHi, IntOp.ori, IntOp.andi, hs]
  interval_cases b <;> interval_cases q <;> simp_all

variable {n : Nat}

/-- Word operations that act on each byte alone, on a matrix of bytes read as words and back. -/
theorem bytes_apply (f : BitVec 32 → BitVec 32) (g : BitVec 8 → BitVec 8)
    (hf : ∀ (w : BitVec 32) (x : BitVec 8) (b : Nat), b < 4 → (∀ t, t < 8 → w.getLsbD (8 * b + t) = x.getLsbD t) →
      ∀ q, q < 8 → (f w).getLsbD (8 * b + q) = (g x).getLsbD q)
    (p : (⟨2, ![640, n]⟩ : Shape).Idx → BitVec 8)
    (h : (⟨2, ![640, n]⟩ : Shape).Bitcasts 8 ⟨2, ![160, n]⟩ 32) (h' : (⟨2, ![160, n]⟩ : Shape).Bitcasts 32 ⟨2, ![640, n]⟩ 8)
    (r : Fin 640) (j : Fin n) :
    bitcast ⟨2, ![640, n]⟩ 8 (fun i => f (bitcast ⟨2, ![160, n]⟩ 32 p h i)) h' (ix2 r j) = g (p (ix2 r j)) := by
  apply BitVec.eq_of_getLsbD_eq
  intro q hq
  have hrow : (⟨2, ![640, n]⟩ : Shape).row (ix2 r j) = r.val := rfl
  rw [bitcast_getLsbD _ h' _ q hq (by decide)]
  have e : h'.srcIdx (ix2 r j) (((⟨2, ![640, n]⟩ : Shape).row (ix2 r j) * 8 + q) / 32) (fun a ha =>
      (Nat.div_lt_iff_lt_mul (by decide)).2 (h'.pos_lt (ix2 r j) q hq a ha)) = ix2 ⟨r.val / 4, by omega⟩ j := by
    funext c
    match c with
    | ⟨0, _⟩ => exact Fin.ext ((h'.srcIdx_row _ _ _ ⟨0, Nat.zero_lt_two⟩ rfl).trans (by rw [hrow]; show _ = r.val / 4; omega))
    | ⟨1, _⟩ => exact Fin.ext (h'.srcIdx_other _ _ _ ⟨1, Nat.one_lt_two⟩ (by show ¬ 1 + 2 = 2; omega))
  rw [e, hrow, show (r.val * 8 + q) % 32 = 8 * (r.val % 4) + q by omega]
  refine hf _ _ _ (Nat.mod_lt _ (by decide)) (fun t ht => ?_) q hq
  refine (bitcast_8_32_getLsbD_ix2 p h ⟨r.val / 4, by omega⟩ j (8 * (r.val % 4) + t) (by omega) r
    (by show r.val = 4 * (r.val / 4) + _; omega)).trans ?_
  rw [show (8 * (r.val % 4) + t) % 8 = t by omega]
  rfl

end Cert.Fp4
-- ==== Proof.Spec.lean ====
module

public import proofs.«01_k».proof.Proof.Chunks
public import proofs.«01_k».proof.Proof.Weights

/-! The second half of a transformer block on one row: output projection and residual, normalisation,
the MXFP4 gate and up projections, the activation and the down projection with its residual; and the
eight arrays it gives over all rows. -/

@[expose] public section

noncomputable section

namespace Cert.Spec

open Idealize.ShloMosaic Cert.Row

/-- The weights, as functions of their indices (the two MXFP4 matrices decoded). -/
structure Wts where
  wo : Fin 1280 → Fin 1280 → EReal
  so : Fin 1280 → EReal
  bo : Fin 1280 → EReal
  g : Fin 1280 → EReal
  wg : Fin 1280 → Fin 3456 → EReal
  bg : Fin 3456 → EReal
  wu : Fin 1280 → Fin 3456 → EReal
  bu : Fin 3456 → EReal
  wd : Fin 3456 → Fin 1280 → EReal
  sd : Fin 1280 → EReal
  bd : Fin 1280 → EReal

/-- The weights an argument list holds. -/
def wts (wo : FVec Ideal (M 1280 1280) .fp8e4m3) (so bo g : FVec Ideal (V1 1280) .f32) (gp : IVec (M 640 3456) 8)
    (ge : IVec (M 40 3456) 8) (bg : FVec Ideal (V1 3456) .f32) (up : IVec (M 640 3456) 8) (ue : IVec (M 40 3456) 8)
    (bu : FVec Ideal (V1 3456) .f32) (wd : FVec Ideal (M 3456 1280) .fp8e4m3) (sd bd : FVec Ideal (V1 1280) .f32) : Wts where
  wo := mat wo
  so := fun j => so (ix1 j)
  bo := fun j => bo (ix1 j)
  g := fun j => g (ix1 j)
  wg := Fp4.weight (fun r j => gp (ix2 r j)) (fun r j => ge (ix2 r j))
  bg := fun j => bg (ix1 j)
  wu := Fp4.weight (fun r j => up (ix2 r j)) (fun r j => ue (ix2 r j))
  bu := fun j => bu (ix1 j)
  wd := mat wd
  sd := fun j => sd (ix1 j)
  bd := fun j => bd (ix1 j)

variable (w : Wts) (a h : Fin 1280 → EReal)

/-- The residual after the output projection of an attention row `a`. -/
def h1 : Fin 1280 → EReal := res h a w.wo w.so w.bo
/-- … normalised. -/
def nrm : Fin 1280 → EReal := rms (h1 w a h) w.g
/-- The activation row. -/
def av : Fin 3456 → EReal := fun j => act (gate (nrm w a h) w.wg w.bg j) (gate (nrm w a h) w.wu w.bu j)
/-- The block's output row. -/
def out : Fin 1280 → EReal := res (h1 w a h) (av w a h) w.wd w.sd w.bd

/-! ## All rows

`at_` is the attention array as the kernel takes it, one column per row of the block. -/

variable (at_ : FVec Ideal (M 1280 8192) .f32) (hh : FVec Ideal (M 8192 1280) .bf16)

/-- Row `r` of the attention array. -/
def arow {n : Nat} (at_ : FVec Ideal (M 1280 n) .f32) (r : Fin n) : Fin 1280 → EReal := fun k => at_ (ix2 k r)

def T0 : FVec Ideal (M 8192 1280) .f32 := fun i => arow at_ (i 0) (i 1)
def T1 : FVec Ideal (M 8192 1280) .fp8e4m3 := fun i => cod (arow at_ (i 0)) (i 1)
def T2 : FVec Ideal (M 1 8192) .f32 := fun i => scl (arow at_ (i 1))
def T3 : FVec Ideal (M 8192 1280) .fp8e4m3 := fun i => cod (nrm w (arow at_ (i 0)) (row hh (i 0))) (i 1)
def T4 : FVec Ideal (M 1 8192) .f32 := fun i => scl (nrm w (arow at_ (i 1)) (row hh (i 1)))
def T5 : FVec Ideal (M 8192 3456) .fp8e4m3 := fun i => cod (av w (arow at_ (i 0)) (row hh (i 0))) (i 1)
def T6 : FVec Ideal (M 1 8192) .f32 := fun i => scl (av w (arow at_ (i 1)) (row hh (i 1)))
def T7 : FVec Ideal (M 8192 1280) .bf16 := fun i => out w (arow at_ (i 0)) (row hh (i 0)) (i 1)

end Cert.Spec
-- ==== Proof.KerPay.lean ====
module

public import proofs.«01_k».proof.Proof.KerBlk
public import proofs.«01_k».proof.Proof.Spec

/-! The values of one grid point of the MLP region, read row by row: each output block is the block's part of Spec. -/

@[expose] public section

noncomputable section

namespace Cert.KerPay

open Idealize.ShloMosaic Cert.KernelIdeal Cert.KernelIdeal.Gen Cert.Row Cert.Spec Cert.KerBlk

variable (x0 : FVec Ideal S1280x256 .f32) (x1 : FVec Ideal S256x1280 .bf16) (x2 : FVec Ideal S1280x1280 .fp8e4m3)
  (x3 x4 x5 : FVec Ideal S1x1280 .f32) (x6 : FVec Ideal S1280x6912 .bf16) (x7 x8 : FVec Ideal S1x3456 .f32)
  (x9 : FVec Ideal S3456x1280 .fp8e4m3) (x10 x11 : FVec Ideal S1x1280 .f32)

/-- The decoded gate weights among the columns of `x6`: of every 256 columns the first 128. -/
def gcol (k : Fin 1280) (j : Fin 3456) : EReal := x6 (ix2 k ⟨256 * (j.val / 128) + j.val % 128, by omega⟩)
/-- The decoded up weights: the other 128. -/
def ucol (k : Fin 1280) (j : Fin 3456) : EReal := x6 (ix2 k ⟨256 * (j.val / 128) + (128 + j.val % 128), by omega⟩)

/-- The weights the input blocks hold. -/
def bw : Wts where
  wo := mat x2
  so := row x3 0
  bo := row x4 0
  g := row x5 0
  wg := gcol x6
  bg := row x7 0
  wu := ucol x6
  bu := row x8 0
  wd := mat x9
  sd := row x10 0
  bd := row x11 0

theorem attn_row (i : Fin 256) : row (k1_pay2 x0) i = arow x0 i := by
  funext j
  unfold row arow
  pointwise [k1_pay2]

theorem attn_scale (i : Fin 256) (z : Fin 1) : k1_pay3 (F := Ideal) x0 (ix2 i z) = scl (arow x0 i) := by
  rw [← attn_row]
  exact scaleV_apply _ _ (k1_pay2 x0) i z

theorem attn_codes (i : Fin 256) : row (k1_pay4 x0) i = cod (arow x0 i) := by
  rw [← attn_row]
  exact codes_row _ _ (k1_pay2 x0) (k1_pay3 x0) i (by rw [attn_scale, attn_row])

/-- A column of scales as a row. -/
theorem turn_apply (s : FVec Ideal S256x1 .f32) (z : Fin 1) (i : Fin 256) :
    extractStridedSlice S1x256 ![0, 0] (transpose S128x256 [1, 0] (broadcastTo S256x128
      (shapeCast S256x1 s shapeCasts_S256x1_S256x1) broadcasts_S256x1_S256x128) transposes_S256x128_p1_0_S128x256)
      slices_S128x256_o0_0_S1x256 (ix2 z i) = s (ix2 i 0) := by
  rw [shapeCast_self]
  pointwise []

abbrev H : FVec Ideal S256x1280 .f32 := k1_pay8 (k1_pay6 x1) (k1_pay7 (F := Ideal) x0 x2 x3) x4

theorem h1_row (i : Fin 256) : row (H x0 x1 x2 x3 x4) i = h1 (bw x2 x3 x4 x5 x6 x7 x8 x9 x10 x11) (arow x0 i) (row x1 i) := by
  refine (linear_row (k := 1280) dot_S256x1280_S1280x1280_S256x1280_1_0_0_1_n_n_wf broadcasts_S256x1_S256x1280
    broadcasts_S1x1280_S256x1280 broadcasts_S1x1280_S256x1280 bitsLt_bf16_f32 (extf .f32 x1 bitsLt_bf16_f32)
    (k1_pay4 (F := Ideal) x0) x2 (k1_pay3 (F := Ideal) x0) (shapeCast S1x1280 x3 shapeCasts_S1x1280_S1x1280)
    (shapeCast S1x1280 x4 shapeCasts_S1x1280_S1x1280) (arow x0 i) i (attn_codes x0 i) (attn_scale x0 i 0)).trans ?_
  rw [shapeCast_self, shapeCast_self]
  rfl

abbrev N : FVec Ideal S256x1280 .f32 := k1_pay9 (k1_pay6 x1) (k1_pay7 (F := Ideal) x0 x2 x3) x4 x5
abbrev NS : FVec Ideal S256x1 .f32 := k1_pay10 (k1_pay6 x1) (k1_pay7 (F := Ideal) x0 x2 x3) x4 x5
abbrev NC : FVec Ideal S256x1280 .fp8e4m3 := k1_pay11 (k1_pay6 x1) (k1_pay7 (F := Ideal) x0 x2 x3) x4 x5

theorem nrm_row (i : Fin 256) : row (N x0 x1 x2 x3 x4 x5) i = nrm (bw x2 x3 x4 x5 x6 x7 x8 x9 x10 x11) (arow x0 i) (row x1 i) := by
  unfold nrm
  rw [← h1_row x0 x1 x2 x3 x4 x5 x6 x7 x8 x9 x10 x11]
  refine (rms_row reduces_S256x1280_S256 shapeCasts_S256_S256x1 broadcasts_S256x1_S256x1280
    broadcasts_S1x1280_S256x1280 (H x0 x1 x2 x3 x4) (shapeCast S1x1280 x5 shapeCasts_S1x1280_S1x1280) i).trans ?_
  rw [shapeCast_self]
  rfl

theorem nrm_scale (i : Fin 256) (z : Fin 1) : NS x0 x1 x2 x3 x4 x5 (ix2 i z)
    = scl (nrm (bw x2 x3 x4 x5 x6 x7 x8 x9 x10 x11) (arow x0 i) (row x1 i)) := by
  rw [← nrm_row]
  exact scaleV_apply _ _ (N x0 x1 x2 x3 x4 x5) i z

theorem nrm_codes (i : Fin 256) : row (NC x0 x1 x2 x3 x4 x5) i
    = cod (nrm (bw x2 x3 x4 x5 x6 x7 x8 x9 x10 x11) (arow x0 i) (row x1 i)) := by
  rw [← nrm_row]
  exact codes_row _ _ (N x0 x1 x2 x3 x4 x5) (NS x0 x1 x2 x3 x4 x5) i
    (by rw [nrm_scale x0 x1 x2 x3 x4 x5 x6 x7 x8 x9 x10 x11, nrm_row])

/-! ## The activation tiles -/

/-- The columns of a tile's weights. -/
abbrev wld (n : Fin 27) : FVec Ideal S1280x256 .bf16 :=
  View.ld (Val := Elt Ideal) (e' := .bf16) x6 (Rect.unit ![0, 256 * n.val] S1280x256.size (inW n))
/-- The columns of a tile's bias. -/
abbrev bld (n : Fin 27) : FVec Ideal S1x128 .f32 :=
  View.ld (Val := Elt Ideal) (e' := .f32) x7 (Rect.unit ![0, 128 * n.val] S1x128.size (inB n))

theorem wld_apply (n : Fin 27) (k : Fin 1280) (q : Fin 256) :
    wld x6 n (ix2 k q) = x6 (ix2 k ⟨256 * n.val + q.val, by omega⟩) := by
  refine congrArg x6 (funext fun a => Fin.ext ?_)
  match a with
  | ⟨0, _⟩ => show 0 + 1 * k.val = k.val; omega
  | ⟨1, _⟩ => show 256 * n.val + 1 * q.val = 256 * n.val + q.val; omega

theorem bld_apply (n : Fin 27) (z : Fin 1) (q : Fin 128) :
    bld x7 n (ix2 z q) = x7 (ix2 z ⟨128 * n.val + q.val, by omega⟩) := by
  refine congrArg x7 (funext fun a => Fin.ext ?_)
  match a with
  | ⟨0, _⟩ => show 0 + 1 * z.val = z.val; omega
  | ⟨1, _⟩ => show 128 * n.val + 1 * q.val = 128 * n.val + q.val; omega

/-- One half of a tile's product, scaled and shifted. -/
theorem half_apply (c : FVec Ideal S256x1280 .bf16) (wt : FVec Ideal S1280x256 .bf16) (s : FVec Ideal S256x1 .f32)
    (b : FVec Ideal S1x128 .f32) (v : Fin 1280 → EReal) (o : Nat) (ho : o + 128 ≤ 256)
    (hsl : S256x256.Slices ![0, o] S256x128) (i : Fin 256) (q : Fin 128)
    (hc : row c i = cod v) (hv : s (ix2 i 0) = scl v) :
    gateV (n := 256) (m := 128) broadcasts_S256x1_S256x128 broadcasts_S1x128_S256x128
      (extractStridedSlice S256x128 ![0, o] (matmul (dd (n := 256) (k := 1280) (m := 256) dot_S256x1280_S1280x256_S256x256_1_0_0_1_n_n_wf) none c wt
        (constant S256x256 .f32 0x00000000#32)) hsl) s b (ix2 i q)
      = (∑ k, cod v k * wt (ix2 k ⟨o + q.val, by omega⟩)) * scl v + b (ix2 0 q) := by
  rw [gateV_apply, hv, ← hc]
  refine congrArg (fun x : EReal => x * scl v + b (ix2 0 q)) ?_
  refine (ValueIdx.slice2_axis1_apply o _ hsl i q ⟨o + q.val, by omega⟩ rfl).trans ?_
  exact mat_apply _ c wt i ⟨o + q.val, by omega⟩

/-- A tile as gate, up and activation. -/
theorem tile_form (c : FVec Ideal S256x1280 .bf16) (wt : FVec Ideal S1280x256 .bf16) (s : FVec Ideal S256x1 .f32)
    (b b' : FVec Ideal S1x128 .f32) : k1_pay22 (F := Ideal) s c wt b b'
      = actV (n := 256) (m := 128)
        (gateV (n := 256) (m := 128) broadcasts_S256x1_S256x128 broadcasts_S1x128_S256x128
          (extractStridedSlice S256x128 ![0, 0] (matmul (dd (n := 256) (k := 1280) (m := 256) dot_S256x1280_S1280x256_S256x256_1_0_0_1_n_n_wf) none c wt
            (constant S256x256 .f32 0x00000000#32)) slices_S256x256_o0_0_S256x128) s b)
        (gateV (n := 256) (m := 128) broadcasts_S256x1_S256x128 broadcasts_S1x128_S256x128
          (extractStridedSlice S256x128 ![0, 128] (matmul (dd (n := 256) (k := 1280) (m := 256) dot_S256x1280_S1280x256_S256x256_1_0_0_1_n_n_wf) none c wt
            (constant S256x256 .f32 0x00000000#32)) slices_S256x256_o0_128_S256x128) s b') := by
  unfold k1_pay22
  rw [shapeCast_self, shapeCast_self, shapeCast_self]
  rfl

/-- One entry of a tile. -/
theorem tile_val (c : FVec Ideal S256x1280 .bf16) (wt : FVec Ideal S1280x256 .bf16) (s : FVec Ideal S256x1 .f32)
    (b b' : FVec Ideal S1x128 .f32) (v : Fin 1280 → EReal) (i : Fin 256) (q : Fin 128)
    (hc : row c i = cod v) (hv : s (ix2 i 0) = scl v) :
    k1_pay22 (F := Ideal) s c wt b b' (ix2 i q)
      = act ((∑ k, cod v k * wt (ix2 k ⟨0 + q.val, by omega⟩)) * scl v + b (ix2 0 q))
        ((∑ k, cod v k * wt (ix2 k ⟨128 + q.val, by omega⟩)) * scl v + b' (ix2 0 q)) := by
  rw [tile_form, actV_apply, half_apply c wt s b v 0 (by decide) _ i q hc hv,
    half_apply c wt s b' v 128 (by decide) _ i q hc hv]

theorem tile_apply (n : Fin 27) (i : Fin 256) (q : Fin 128) :
    tile (F := Ideal) (NS x0 x1 x2 x3 x4 x5) (NC x0 x1 x2 x3 x4 x5) x6 x7 x8 n (ix2 i q)
      = av (bw x2 x3 x4 x5 x6 x7 x8 x9 x10 x11) (arow x0 i) (row x1 i) ⟨128 * n.val + q.val, by omega⟩ := by
  refine (tile_val (k1_pay13 (NC x0 x1 x2 x3 x4 x5)) (wld x6 n) (NS x0 x1 x2 x3 x4 x5) (bld x7 n) (bld x8 n) _ i q
    (nrm_codes x0 x1 x2 x3 x4 x5 x6 x7 x8 x9 x10 x11 i) (nrm_scale x0 x1 x2 x3 x4 x5 x6 x7 x8 x9 x10 x11 i 0)).trans ?_
  generalize hw : bw x2 x3 x4 x5 x6 x7 x8 x9 x10 x11 = w
  rw [bld_apply, bld_apply]
  unfold av
  generalize nrm w (arow x0 i) (row x1 i) = v
  subst hw
  unfold gate dot
  refine congrArg₂ act (congrArg (fun x : EReal => x * scl v + x7 (ix2 0 ⟨128 * n.val + q.val, by omega⟩))
      (Finset.sum_congr rfl fun k _ => congrArg (fun x : EReal => cod v k * x) ?_))
    (congrArg (fun x : EReal => x * scl v + x8 (ix2 0 ⟨128 * n.val + q.val, by omega⟩))
      (Finset.sum_congr rfl fun k _ => congrArg (fun x : EReal => cod v k * x) ?_))
  · refine (wld_apply x6 n k _).trans (congrArg (fun j => x6 (ix2 k j)) (Fin.ext ?_))
    show 256 * n.val + (0 + q.val) = 256 * ((128 * n.val + q.val) / 128) + (128 * n.val + q.val) % 128
    omega
  · refine (wld_apply x6 n k _).trans (congrArg (fun j => x6 (ix2 k j)) (Fin.ext ?_))
    show 256 * n.val + (128 + q.val) = 256 * ((128 * n.val + q.val) / 128) + (128 + (128 * n.val + q.val) % 128)
    omega

/-- The tiles of a block, from its input blocks. -/
abbrev TT : Fin 27 → FVec Ideal S256x128 .f32 := tile (F := Ideal) (NS x0 x1 x2 x3 x4 x5) (NC x0 x1 x2 x3 x4 x5) x6 x7 x8

theorem acts_row (i : Fin 256) : row (φ := .f32) (n := 256) (k := 3456) (acts (TT x0 x1 x2 x3 x4 x5 x6 x7 x8)) i
    = av (bw x2 x3 x4 x5 x6 x7 x8 x9 x10 x11) (arow x0 i) (row x1 i) := by
  funext j
  refine (tile_apply x0 x1 x2 x3 x4 x5 x6 x7 x8 x9 x10 x11 ⟨j.val / 128, by omega⟩ i ⟨j.val % 128, Nat.mod_lt _ (by decide)⟩).trans ?_
  exact congrArg _ (Fin.ext (by show 128 * (j.val / 128) + j.val % 128 = j.val; omega))

/-! ## The largest absolute value, tile by tile -/

theorem absf_nonneg (x : EReal) : 0 ≤ (FloatOps.absf (F := Ideal) (φ := .f32) x : EReal) := by
  show (0 : EReal) ≤ max x (-x)
  rcases le_total 0 x with h | h
  · exact le_max_of_le_left h
  · exact le_max_of_le_right (EReal.neg_nonneg.mpr h)

theorem runMax_le (t : Fin 27 → FVec Ideal S256x128 .f32) (x : S256x128.Idx) (b : EReal) (h0 : 0 ≤ b)
    (h : ∀ n, (FloatOps.absf (F := Ideal) (φ := .f32) (t n x) : EReal) ≤ b) : ∀ n hn, (runMax t n hn x : EReal) ≤ b
  | 0, _ => by
    show (FloatOps.ofBits (F := Ideal) .f32 0x00000000#32 : EReal) ≤ b
    rw [show (FloatOps.ofBits (F := Ideal) .f32 0x00000000#32 : EReal) = 0 from Ideal.ofBits_zero_f32]
    exact h0
  | n + 1, hn => max_le (runMax_le t x b h0 h n _) (h _)

theorem le_runMax (t : Fin 27 → FVec Ideal S256x128 .f32) (x : S256x128.Idx) : ∀ n hn, ∀ m : Fin 27, m.val < n →
    (FloatOps.absf (F := Ideal) (φ := .f32) (t m x) : EReal) ≤ runMax t n hn x
  | 0, _, m, h => absurd h (Nat.not_lt_zero _)
  | n + 1, hn, m, h => by
    by_cases e : m.val < n
    · exact le_trans (le_runMax t x n _ m e) (le_max_left _ _)
    · obtain rfl : m = ⟨n, hn⟩ := Fin.ext (by show m.val = n; omega)
      exact le_max_right _ _

/-- The row maxima of a block, as a fold. -/
theorem rowmax_apply (v : FVec Ideal S256x128 .f32) (i : Fin 256) (z : Fin 1) :
    shapeCast S256x1 (multiReduction .maximumf [1] S256 v 0xFF800000#32
      reduces_S256x128_S256 (.inl rfl) rfl) shapeCasts_S256_S256x1 (ix2 i z)
      = Finset.univ.fold max (Ideal.ofBits .f32 0xFF800000#32) fun j => v (ix2 i j) := by
  rw [cast_apply]
  pointwise []

/-- The running maximum over the tiles and then over the lanes is the largest magnitude of the row. -/
theorem tmax_apply (t : Fin 27 → FVec Ideal S256x128 .f32) (i : Fin 256) (z : Fin 1) :
    tmax t (ix2 i z) = amax (row (φ := .f32) (n := 256) (k := 3456) (acts t) i) := by
  refine (rowmax_apply (runMax t 27 (Nat.le_refl _)) i z).trans (le_antisymm ?_ ?_)
  · have hle : ∀ j : Fin 3456, (FloatOps.absf (F := Ideal) (φ := .f32) (row (φ := .f32) (n := 256) (k := 3456) (acts t) i j) : EReal)
        ≤ amax (row (φ := .f32) (n := 256) (k := 3456) (acts t) i) := fun j =>
      Finset.le_fold_max _ |>.mpr (Or.inr ⟨j, Finset.mem_univ _, le_refl _⟩)
    refine (Finset.fold_max_le _).mpr ⟨(Finset.le_fold_max _).mpr (Or.inl (le_refl _)), fun l _ => ?_⟩
    refine runMax_le t (ix2 i l) _ ((absf_nonneg _).trans (hle 0)) (fun n => ?_) 27 _
    refine le_of_eq_of_le ?_ (hle ⟨128 * n.val + l.val, by omega⟩)
    refine congrArg (fun x : EReal => FloatOps.absf (F := Ideal) (φ := .f32) x) ((acts_at t n (ix2 i l)).trans ?_)
    refine congrArg (acts t) (funext fun a => Fin.ext ?_)
    match a with
    | ⟨0, _⟩ => show 0 + 1 * i.val = i.val; omega
    | ⟨1, _⟩ => show 128 * n.val + 1 * l.val = 128 * n.val + l.val; omega
  · refine (Finset.fold_max_le _).mpr ⟨(Finset.le_fold_max _).mpr (Or.inl (le_refl _)), fun j _ => ?_⟩
    refine (Finset.le_fold_max _).mpr (Or.inr ⟨⟨j.val % 128, Nat.mod_lt _ (by decide)⟩, Finset.mem_univ _, ?_⟩)
    exact le_runMax t _ 27 _ ⟨j.val / 128, by omega⟩ (by show j.val / 128 < 27; omega)

/-- The activation scales: those of the 27 tiles side by side. -/
abbrev AS (t : Fin 27 → FVec Ideal S256x128 .f32) : FVec Ideal S256x1 .f32 := k1_pay113 (pos t) (quo t) one

theorem act_scale (i : Fin 256) (z : Fin 1) : AS (TT x0 x1 x2 x3 x4 x5 x6 x7 x8) (ix2 i z)
    = scl (av (bw x2 x3 x4 x5 x6 x7 x8 x9 x10 x11) (arow x0 i) (row x1 i)) := by
  refine (scaleOfV_apply (n := 256) (tmax (TT x0 x1 x2 x3 x4 x5 x6 x7 x8)) i z).trans ?_
  rw [tmax_apply, acts_row x0 x1 x2 x3 x4 x5 x6 x7 x8 x9 x10 x11]
  rfl

abbrev AC : FVec Ideal S256x3456 .fp8e4m3 := k1_pay115 (pos (TT x0 x1 x2 x3 x4 x5 x6 x7 x8))
  (quo (TT x0 x1 x2 x3 x4 x5 x6 x7 x8)) one (acts (TT x0 x1 x2 x3 x4 x5 x6 x7 x8))

theorem act_codes (i : Fin 256) : row (AC x0 x1 x2 x3 x4 x5 x6 x7 x8) i
    = cod (av (bw x2 x3 x4 x5 x6 x7 x8 x9 x10 x11) (arow x0 i) (row x1 i)) := by
  rw [← acts_row]
  exact codes_row (n := 256) (k := 3456) broadcasts_S256x1_S256x3456 bitsLt_fp8e4m3_f32 (acts (TT x0 x1 x2 x3 x4 x5 x6 x7 x8))
    (AS (TT x0 x1 x2 x3 x4 x5 x6 x7 x8)) i
    (by rw [act_scale x0 x1 x2 x3 x4 x5 x6 x7 x8 x9 x10 x11, acts_row x0 x1 x2 x3 x4 x5 x6 x7 x8 x9 x10 x11])

theorem out_row (i : Fin 256) : row (k1_pay1 (H x0 x1 x2 x3 x4) (k1_pay116 (pos (TT x0 x1 x2 x3 x4 x5 x6 x7 x8))
    (quo (TT x0 x1 x2 x3 x4 x5 x6 x7 x8)) one (acts (TT x0 x1 x2 x3 x4 x5 x6 x7 x8)) x9 x10) x11) i
      = out (bw x2 x3 x4 x5 x6 x7 x8 x9 x10 x11) (arow x0 i) (row x1 i) := by
  refine (linear_row (k := 3456) dot_S256x3456_S3456x1280_S256x1280_1_0_0_1_n_n_wf broadcasts_S256x1_S256x1280
    broadcasts_S1x1280_S256x1280 broadcasts_S1x1280_S256x1280 bitsLt_bf16_f32 (H x0 x1 x2 x3 x4)
    (AC x0 x1 x2 x3 x4 x5 x6 x7 x8) x9 (AS (TT x0 x1 x2 x3 x4 x5 x6 x7 x8))
    (shapeCast S1x1280 x10 shapeCasts_S1x1280_S1x1280) (shapeCast S1x1280 x11 shapeCasts_S1x1280_S1x1280)
    (av (bw x2 x3 x4 x5 x6 x7 x8 x9 x10 x11) (arow x0 i) (row x1 i)) i
    (act_codes x0 x1 x2 x3 x4 x5 x6 x7 x8 x9 x10 x11 i) (act_scale x0 x1 x2 x3 x4 x5 x6 x7 x8 x9 x10 x11 i 0)).trans ?_
  rw [shapeCast_self, shapeCast_self, h1_row x0 x1 x2 x3 x4 x5 x6 x7 x8 x9 x10 x11]
  rfl

/-! ## The three scale rows -/

theorem attn_turn (z : Fin 1) (i : Fin 256) : k1_pay5 (F := Ideal) x0 (ix2 z i) = scl (arow x0 i) :=
  (turn_apply (k1_pay3 x0) z i).trans (attn_scale x0 i 0)

theorem nrm_turn (z : Fin 1) (i : Fin 256) : k1_pay12 (k1_pay6 x1) (k1_pay7 (F := Ideal) x0 x2 x3) x4 x5 (ix2 z i)
    = scl (nrm (bw x2 x3 x4 x5 x6 x7 x8 x9 x10 x11) (arow x0 i) (row x1 i)) :=
  (turn_apply (NS x0 x1 x2 x3 x4 x5) z i).trans (nrm_scale x0 x1 x2 x3 x4 x5 x6 x7 x8 x9 x10 x11 i 0)

theorem act_turn (z : Fin 1) (i : Fin 256) : k1_pay114 (pos (TT x0 x1 x2 x3 x4 x5 x6 x7 x8))
    (quo (TT x0 x1 x2 x3 x4 x5 x6 x7 x8)) one (ix2 z i)
    = scl (av (bw x2 x3 x4 x5 x6 x7 x8 x9 x10 x11) (arow x0 i) (row x1 i)) :=
  (turn_apply (AS (TT x0 x1 x2 x3 x4 x5 x6 x7 x8)) z i).trans (act_scale x0 x1 x2 x3 x4 x5 x6 x7 x8 x9 x10 x11 i 0)

end Cert.KerPay
-- ==== Proof.KerArr.lean ====
module

public import proofs.«01_k».proof.Proof.KerPay
public import Idealize.ShloMosaic.Lib.Pipeline.ValueKit.Geometry

/-! The result arrays of the MLP region: each is the array of Spec over the region's inputs. Point `t` of the
grid does rows `256 t` to `256 t + 255`. -/

@[expose] public section

noncomputable section

namespace Cert.KerArr

open Idealize.ShloMosaic Idealize.ShloMosaic.TcCoe Idealize.SL.Sem Cert.KernelIdeal Cert.KernelIdeal.Gen Cert.Row Cert.Spec Cert.KerBlk
  Cert.KerPay

variable (V : (c : Dev nD) → (b : Ref sig .tc) → Buf (Elt Ideal) ((c : Thread nD τ).loc b)) (c : Dev nD)

/-- The weights as the region finds them. -/
abbrev W : Wts := bw (V c main_arg2) (V c main_v1) (V c main_v2) (V c main_v3) (V c main_v0) (V c main_v4) (V c main_v5) (V c main_arg12) (V c main_v6) (V c main_v7)

/-- The block indices: blocks of columns of the attention array and of the scale rows, blocks of rows elsewhere,
    and every weight whole. -/
theorem index1 : ∀ t : Fin cfg1.N, win1_0.index t = ![0, t.val] ∧ win1_1.index t = ![t.val, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] :=
  (by decide +kernel : ∀ t : Fin grid1.N, _)
theorem index1o : ∀ t : Fin cfg1.N, win1_12.index t = ![t.val, 0] ∧ win1_13.index t = ![t.val, 0] ∧ win1_14.index t = ![0, t.val] ∧ win1_15.index t = ![t.val, 0] ∧ win1_16.index t = ![0, t.val] ∧ win1_17.index t = ![t.val, 0] ∧ win1_18.index t = ![0, t.val] ∧ win1_19.index t = ![t.val, 0] :=
  (by decide +kernel : ∀ t : Fin grid1.N, _)

/-- The array row of row `i` of block `t`. -/
def rw_ (t : Fin cfg1.N) (i : Fin 256) : Fin 8192 := ⟨256 * t.val + i.val, by have : t.val < 32 := t.isLt; omega⟩

theorem attn_in (t : Fin cfg1.N) (i : Fin 256) :
    arow (n := 256) (iblk1 V c 0 t) i = arow (n := 8192) (V c main_arg0) (rw_ t i) := by
  have h := index1 t
  funext k
  unfold arow iblk1
  refine congrArg (V c main_arg0) ?_
  unfold rw_
  blk_ext [h]

theorem res_in (t : Fin cfg1.N) (i : Fin 256) :
    row (φ := .bf16) (n := 256) (k := 1280) (iblk1 V c 1 t) i = row (φ := .bf16) (n := 8192) (k := 1280) (V c main_arg1) (rw_ t i) := by
  have h := index1 t
  funext k
  unfold row iblk1
  refine congrArg (V c main_arg1) ?_
  unfold rw_
  blk_ext [h]

/-! A weight's block is the weight. -/

theorem in2 (t : Fin cfg1.N) : iblk1 V c 2 t = V c main_arg2 := by
  have h := index1 t
  funext x
  unfold iblk1
  refine congrArg (V c main_arg2) ?_
  blk_ext [h]
theorem in3 (t : Fin cfg1.N) : iblk1 V c 3 t = V c main_v1 := by
  have h := index1 t
  funext x
  unfold iblk1
  refine congrArg (V c main_v1) ?_
  blk_ext [h]
theorem in4 (t : Fin cfg1.N) : iblk1 V c 4 t = V c main_v2 := by
  have h := index1 t
  funext x
  unfold iblk1
  refine congrArg (V c main_v2) ?_
  blk_ext [h]
theorem in5 (t : Fin cfg1.N) : iblk1 V c 5 t = V c main_v3 := by
  have h := index1 t
  funext x
  unfold iblk1
  refine congrArg (V c main_v3) ?_
  blk_ext [h]
theorem in6 (t : Fin cfg1.N) : iblk1 V c 6 t = V c main_v0 := by
  have h := index1 t
  funext x
  unfold iblk1
  refine congrArg (V c main_v0) ?_
  blk_ext [h]
theorem in7 (t : Fin cfg1.N) : iblk1 V c 7 t = V c main_v4 := by
  have h := index1 t
  funext x
  unfold iblk1
  refine congrArg (V c main_v4) ?_
  blk_ext [h]
theorem in8 (t : Fin cfg1.N) : iblk1 V c 8 t = V c main_v5 := by
  have h := index1 t
  funext x
  unfold iblk1
  refine congrArg (V c main_v5) ?_
  blk_ext [h]
theorem in9 (t : Fin cfg1.N) : iblk1 V c 9 t = V c main_arg12 := by
  have h := index1 t
  funext x
  unfold iblk1
  refine congrArg (V c main_arg12) ?_
  blk_ext [h]
theorem in10 (t : Fin cfg1.N) : iblk1 V c 10 t = V c main_v6 := by
  have h := index1 t
  funext x
  unfold iblk1
  refine congrArg (V c main_v6) ?_
  blk_ext [h]
theorem in11 (t : Fin cfg1.N) : iblk1 V c 11 t = V c main_v7 := by
  have h := index1 t
  funext x
  unfold iblk1
  refine congrArg (V c main_v7) ?_
  blk_ext [h]

theorem W_eq (t : Fin cfg1.N) : bw (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) = W V c := by
  rw [in2, in3, in4, in5, in6, in7, in8, in9, in10, in11]

/-! ## The eight arrays -/

theorem final12 : (dat1 V c).arrAt 12 cfg1.N = T0 (V c main_arg0) := by
  refine (dat1 V c).arrAt_eq_of_covers 12 (T0 (V c main_arg0)) (by decide +kernel) fun t hf y => ?_
  blk_simp
  rw [after1_12, o12]
  obtain ⟨i, j, rfl⟩ : ∃ (i : Fin 256) (j : Fin 1280), y = ix2 i j := ⟨y 0, y 1, ValueIdx.eq_ix2 y⟩
  have h := index1o t
  have e0 : (win1_12.blk t).view.emb (ix2 i j) 0 = rw_ t i := Fin.ext (by show _ = 256 * t.val + i.val; blk_simp [h]; omega)
  have e1 : (win1_12.blk t).view.emb (ix2 i j) 1 = j := Fin.ext (by blk_simp [h])
  refine (congrFun (attn_row (iblk1 V c 0 t) i) j).trans ?_
  rw [attn_in]
  unfold T0
  rw [e0, e1]

theorem final13 : (dat1 V c).arrAt 13 cfg1.N = T1 (V c main_arg0) := by
  refine (dat1 V c).arrAt_eq_of_covers 13 (T1 (V c main_arg0)) (by decide +kernel) fun t hf y => ?_
  blk_simp
  rw [after1_13, o13]
  obtain ⟨i, j, rfl⟩ : ∃ (i : Fin 256) (j : Fin 1280), y = ix2 i j := ⟨y 0, y 1, ValueIdx.eq_ix2 y⟩
  have h := index1o t
  have e0 : (win1_13.blk t).view.emb (ix2 i j) 0 = rw_ t i := Fin.ext (by show _ = 256 * t.val + i.val; blk_simp [h]; omega)
  have e1 : (win1_13.blk t).view.emb (ix2 i j) 1 = j := Fin.ext (by blk_simp [h])
  refine (congrFun (attn_codes (iblk1 V c 0 t) i) j).trans ?_
  rw [attn_in]
  unfold T1
  rw [e0, e1]

theorem final14 : (dat1 V c).arrAt 14 cfg1.N = T2 (V c main_arg0) := by
  refine (dat1 V c).arrAt_eq_of_covers 14 (T2 (V c main_arg0)) (by decide +kernel) fun t hf y => ?_
  blk_simp
  rw [after1_14, o14]
  obtain ⟨z, i, rfl⟩ : ∃ (z : Fin 1) (i : Fin 256), y = ix2 z i := ⟨y 0, y 1, ValueIdx.eq_ix2 y⟩
  have h := index1o t
  have e1 : (win1_14.blk t).view.emb (ix2 z i) 1 = rw_ t i := Fin.ext (by show _ = 256 * t.val + i.val; blk_simp [h]; omega)
  refine (attn_turn (iblk1 V c 0 t) z i).trans ?_
  rw [attn_in]
  unfold T2
  rw [e1]

theorem final15 : (dat1 V c).arrAt 15 cfg1.N = T3 (W V c) (V c main_arg0) (V c main_arg1) := by
  refine (dat1 V c).arrAt_eq_of_covers 15 (T3 (W V c) (V c main_arg0) (V c main_arg1)) (by decide +kernel) fun t hf y => ?_
  blk_simp
  rw [after1_15, o15]
  obtain ⟨i, j, rfl⟩ : ∃ (i : Fin 256) (j : Fin 1280), y = ix2 i j := ⟨y 0, y 1, ValueIdx.eq_ix2 y⟩
  have h := index1o t
  have e0 : (win1_15.blk t).view.emb (ix2 i j) 0 = rw_ t i := Fin.ext (by show _ = 256 * t.val + i.val; blk_simp [h]; omega)
  have e1 : (win1_15.blk t).view.emb (ix2 i j) 1 = j := Fin.ext (by blk_simp [h])
  refine (congrFun (nrm_codes (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) i) j).trans ?_
  rw [W_eq, attn_in, res_in]
  unfold T3
  rw [e0, e1]

theorem final16 : (dat1 V c).arrAt 16 cfg1.N = T4 (W V c) (V c main_arg0) (V c main_arg1) := by
  refine (dat1 V c).arrAt_eq_of_covers 16 (T4 (W V c) (V c main_arg0) (V c main_arg1)) (by decide +kernel) fun t hf y => ?_
  blk_simp
  rw [after1_16, o16]
  obtain ⟨z, i, rfl⟩ : ∃ (z : Fin 1) (i : Fin 256), y = ix2 z i := ⟨y 0, y 1, ValueIdx.eq_ix2 y⟩
  have h := index1o t
  have e1 : (win1_16.blk t).view.emb (ix2 z i) 1 = rw_ t i := Fin.ext (by show _ = 256 * t.val + i.val; blk_simp [h]; omega)
  refine (nrm_turn (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) z i).trans ?_
  rw [W_eq, attn_in, res_in]
  unfold T4
  rw [e1]

theorem final17 : (dat1 V c).arrAt 17 cfg1.N = T5 (W V c) (V c main_arg0) (V c main_arg1) := by
  refine (dat1 V c).arrAt_eq_of_covers 17 (T5 (W V c) (V c main_arg0) (V c main_arg1)) (by decide +kernel) fun t hf y => ?_
  blk_simp
  rw [after1_17, o17]
  obtain ⟨i, j, rfl⟩ : ∃ (i : Fin 256) (j : Fin 3456), y = ix2 i j := ⟨y 0, y 1, ValueIdx.eq_ix2 y⟩
  have h := index1o t
  have e0 : (win1_17.blk t).view.emb (ix2 i j) 0 = rw_ t i := Fin.ext (by show _ = 256 * t.val + i.val; blk_simp [h]; omega)
  have e1 : (win1_17.blk t).view.emb (ix2 i j) 1 = j := Fin.ext (by blk_simp [h])
  refine (congrFun (act_codes (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) i) j).trans ?_
  rw [W_eq, attn_in, res_in]
  unfold T5
  rw [e0, e1]

theorem final18 : (dat1 V c).arrAt 18 cfg1.N = T6 (W V c) (V c main_arg0) (V c main_arg1) := by
  refine (dat1 V c).arrAt_eq_of_covers 18 (T6 (W V c) (V c main_arg0) (V c main_arg1)) (by decide +kernel) fun t hf y => ?_
  blk_simp
  rw [after1_18, o18]
  obtain ⟨z, i, rfl⟩ : ∃ (z : Fin 1) (i : Fin 256), y = ix2 z i := ⟨y 0, y 1, ValueIdx.eq_ix2 y⟩
  have h := index1o t
  have e1 : (win1_18.blk t).view.emb (ix2 z i) 1 = rw_ t i := Fin.ext (by show _ = 256 * t.val + i.val; blk_simp [h]; omega)
  refine (act_turn (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) z i).trans ?_
  rw [W_eq, attn_in, res_in]
  unfold T6
  rw [e1]

theorem final19 : (dat1 V c).arrAt 19 cfg1.N = T7 (W V c) (V c main_arg0) (V c main_arg1) := by
  refine (dat1 V c).arrAt_eq_of_covers 19 (T7 (W V c) (V c main_arg0) (V c main_arg1)) (by decide +kernel) fun t hf y => ?_
  blk_simp
  rw [after1_19, o19]
  obtain ⟨i, j, rfl⟩ : ∃ (i : Fin 256) (j : Fin 1280), y = ix2 i j := ⟨y 0, y 1, ValueIdx.eq_ix2 y⟩
  have h := index1o t
  have e0 : (win1_19.blk t).view.emb (ix2 i j) 0 = rw_ t i := Fin.ext (by show _ = 256 * t.val + i.val; blk_simp [h]; omega)
  have e1 : (win1_19.blk t).view.emb (ix2 i j) 1 = j := Fin.ext (by blk_simp [h])
  refine (congrFun (out_row (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) i) j).trans ?_
  rw [W_eq, attn_in, res_in]
  unfold T7
  rw [e0, e1]

end Cert.KerArr
-- ==== Proof.KerDec.lean ====
module

public import proofs.«01_k».proof.Proof.Gen.KernelIdeal.Frame
public import proofs.«01_k».proof.Proof.Weights
public import Idealize.ShloMosaic.Lib.Pipeline.Value
public import Idealize.ShloMosaic.Lib.Pipeline.ValueKit.Geometry
public import Idealize.ShloMosaic.Lib.Pipeline.ValueKit.Acc
public import Idealize.ShloMosaic.Lib.ValueLayout
public import Idealize.ShloMosaic.Lib.Pointwise

/-! The decoding region: of every 256 columns of its result, the first 128 are decoded gate weights and the
other 128 decoded up weights. -/

@[expose] public section

noncomputable section

namespace Cert.KerDec

open Idealize.ShloMosaic Idealize.ShloMosaic.TcCoe Idealize.SL.Sem Cert.KernelIdeal Cert.KernelIdeal.Gen Cert.Fp4

theorem z2 : (![0, 0] : Fin 2 → Nat) = fun _ => 0 := funext fun a => by fin_cases a <;> rfl

/-- The bytes of a block's low codes, and of its high codes. -/
theorem lo_bytes (p : IVec S640x128 8) (r : Fin 640) (j : Fin 128) :
    bitcast S640x128 8 (ori (shli (andi (bitcast S160x128 32 p bitcasts_S640x128_w8_S160x128_w32) (broadcast S160x128 134744072#32))
      (broadcast S160x128 4#32)) (shli (andi (bitcast S160x128 32 p bitcasts_S640x128_w8_S160x128_w32)
      (broadcast S160x128 117901063#32)) (broadcast S160x128 2#32))) bitcasts_S160x128_w32_S640x128_w8 (ix2 r j)
      = fpLo (p (ix2 r j)) :=
  bytes_apply wLo fpLo wLo_bit p _ _ r j
theorem hi_bytes (p : IVec S640x128 8) (r : Fin 640) (j : Fin 128) :
    bitcast S640x128 8 (ori (andi (bitcast S160x128 32 p bitcasts_S640x128_w8_S160x128_w32) (broadcast S160x128 2155905152#32))
      (shrsi (andi (bitcast S160x128 32 p bitcasts_S640x128_w8_S160x128_w32) (broadcast S160x128 1886417008#32))
      (broadcast S160x128 2#32))) bitcasts_S160x128_w32_S640x128_w8 (ix2 r j) = fpHi (p (ix2 r j)) :=
  bytes_apply wHi fpHi wHi_bit p _ _ r j

/-- The gate half of a block. -/
theorem gate_apply (p : IVec S640x128 8) (e : IVec S40x128 8) (k : Fin 1280) (j : Fin 128) :
    k0_pay2 (F := Ideal) p e (ix2 k j) = weight (fun r j => p (ix2 r j)) (fun r j => e (ix2 r j)) k j := by
  pointwise [k0_pay2]
  refine Eq.trans (congrArg₂ (fun a b : EReal => a * Ideal.ofBits .bf16 17024#16 * b)
    (dite_congr rfl (fun _ => congrArg (Ideal.ofBits .fp8e4m3) (lo_bytes p _ j))
      (fun _ => congrArg (Ideal.ofBits .fp8e4m3) (hi_bytes p _ j))) (ofBits_exponent _)) ?_
  unfold weight
  by_cases hk : k.val % 2 < 1
  · rw [dif_pos hk, if_pos hk, lo_value]
  · rw [dif_neg hk, if_neg hk, hi_value]

/-- The up half: the same operations. -/
theorem up_apply (p : IVec S640x128 8) (e : IVec S40x128 8) (k : Fin 1280) (j : Fin 128) :
    k0_pay1 (F := Ideal) p e (ix2 k j) = weight (fun r j => p (ix2 r j)) (fun r j => e (ix2 r j)) k j :=
  gate_apply p e k j

/-- Both matrices decoded, in alternating groups of 128 columns. -/
def both (gp : IVec S640x3456 8) (ge : IVec S40x3456 8) (up : IVec S640x3456 8) (ue : IVec S40x3456 8) :
    FVec Ideal S1280x6912 .bf16 := fun i =>
  have h : (i 1).val < 6912 := (i 1).isLt
  if (i 1).val % 256 < 128 then
    weight (fun r (j : Fin 3456) => gp (ix2 r j)) (fun r j => ge (ix2 r j)) (i 0) ⟨128 * ((i 1).val / 256) + (i 1).val % 128, by omega⟩
  else weight (fun r (j : Fin 3456) => up (ix2 r j)) (fun r j => ue (ix2 r j)) (i 0) ⟨128 * ((i 1).val / 256) + (i 1).val % 128, by omega⟩

/-- What a point leaves in its block: the gate weights of its 128 columns, then the up weights. -/
def blk (x0 : Vec Ideal S640x128 .i8) (x1 : Vec Ideal S40x128 .i8) (x2 : Vec Ideal S640x128 .i8) (x3 : Vec Ideal S40x128 .i8) :
    Vec Ideal S1280x256 .bf16 := fun i =>
  have h : (i 1).val < 256 := (i 1).isLt
  if (i 1).val % 256 < 128 then
    weight (fun r (j : Fin 128) => x0 (ix2 r j)) (fun r j => x1 (ix2 r j)) (i 0) ⟨(i 1).val % 128, by omega⟩
  else weight (fun r (j : Fin 128) => x2 (ix2 r j)) (fun r j => x3 (ix2 r j)) (i 0) ⟨(i 1).val % 128, by omega⟩

theorem out_eq (x0 : Vec Ideal S640x128 .i8) (x1 : Vec Ideal S40x128 .i8) (x2 : Vec Ideal S640x128 .i8) (x3 : Vec Ideal S40x128 .i8) :
    out0_4 x0 x1 x2 x3 = blk x0 x1 x2 x3 := by
  funext i
  unfold out0_4
  rw [View.ld_unit_zero (S := S640x128) z2, View.ld_unit_zero (S := S40x128) z2, View.ld_unit_zero (S := S640x128) z2, View.ld_unit_zero (S := S40x128) z2]
  refine View.canon_apply_of_pieces (blk x0 x1 x2 x3) _ ?_ i (cover0_4 _ _ i)
  simp only [List.forall_mem_cons]
  refine ⟨fun x => ?_, fun x => ?_, fun _ h => absurd h List.not_mem_nil⟩
  · obtain ⟨k, j, rfl⟩ : ∃ (k : Fin 1280) (j : Fin 128), x = ix2 k j := ⟨x 0, x 1, ValueIdx.eq_ix2 x⟩
    refine (up_apply x2 x3 k j).trans ?_
    have h1 : ((r0_3.emb (ix2 k j)) 1).val = 128 + j.val := by show 128 + 1 * j.val = _; omega
    have h0 : (r0_3.emb (ix2 k j)) 0 = k := Fin.ext (by show 0 + 1 * k.val = k.val; omega)
    unfold blk
    rw [if_neg (by rw [h1]; omega), h0]
    exact congrArg _ (Fin.ext (by show j.val = ((r0_3.emb (ix2 k j)) 1).val % 128; rw [h1]; omega))
  · obtain ⟨k, j, rfl⟩ : ∃ (k : Fin 1280) (j : Fin 128), x = ix2 k j := ⟨x 0, x 1, ValueIdx.eq_ix2 x⟩
    refine (gate_apply x0 x1 k j).trans ?_
    have h1 : ((r0_2.emb (ix2 k j)) 1).val = j.val := by show 0 + 1 * j.val = _; omega
    have h0 : (r0_2.emb (ix2 k j)) 0 = k := Fin.ext (by show 0 + 1 * k.val = k.val; omega)
    unfold blk
    rw [if_pos (by rw [h1]; omega), h0]
    exact congrArg _ (Fin.ext (by show j.val = ((r0_2.emb (ix2 k j)) 1).val % 128; rw [h1]; omega))

variable (V : (c : Dev nD) → (b : Ref sig .tc) → Buf (Elt Ideal) ((c : Thread nD τ).loc b)) (c : Dev nD)

theorem index0 : ∀ t : Fin cfg0.N, win0_0.index t = ![0, t.val] ∧ win0_1.index t = ![0, t.val] ∧ win0_2.index t = ![0, t.val]
    ∧ win0_3.index t = ![0, t.val] ∧ win0_4.index t = ![0, t.val] :=
  (by decide +kernel : ∀ t : Fin grid0.N, _)

/-! Block `t` of an argument: its 128 columns from `128 t`. -/

theorem iblk_gp (t : Fin cfg0.N) (r : Fin 640) (j : Fin 128) : iblk0 V c 0 t (ix2 r j)
    = V c main_arg6 (ix2 r ⟨128 * t.val + j.val, by have : t.val < 27 := t.isLt; omega⟩) := by
  have h := index0 t
  unfold iblk0
  refine congrArg (V c main_arg6) ?_
  blk_ext [h]
theorem iblk_ge (t : Fin cfg0.N) (r : Fin 40) (j : Fin 128) : iblk0 V c 1 t (ix2 r j)
    = V c main_arg7 (ix2 r ⟨128 * t.val + j.val, by have : t.val < 27 := t.isLt; omega⟩) := by
  have h := index0 t
  unfold iblk0
  refine congrArg (V c main_arg7) ?_
  blk_ext [h]
theorem iblk_up (t : Fin cfg0.N) (r : Fin 640) (j : Fin 128) : iblk0 V c 2 t (ix2 r j)
    = V c main_arg9 (ix2 r ⟨128 * t.val + j.val, by have : t.val < 27 := t.isLt; omega⟩) := by
  have h := index0 t
  unfold iblk0
  refine congrArg (V c main_arg9) ?_
  blk_ext [h]
theorem iblk_ue (t : Fin cfg0.N) (r : Fin 40) (j : Fin 128) : iblk0 V c 3 t (ix2 r j)
    = V c main_arg10 (ix2 r ⟨128 * t.val + j.val, by have : t.val < 27 := t.isLt; omega⟩) := by
  have h := index0 t
  unfold iblk0
  refine congrArg (V c main_arg10) ?_
  blk_ext [h]

/-- A weight depends only on its own column. -/
theorem weight_congr {f f' : Nat} {p : Fin 640 → Fin f → BitVec 8} {e : Fin 40 → Fin f → BitVec 8} {p' : Fin 640 → Fin f' → BitVec 8}
    {e' : Fin 40 → Fin f' → BitVec 8} (k : Fin 1280) {j : Fin f} {j' : Fin f'} (hp : ∀ r, p r j = p' r j') (he : ∀ r, e r j = e' r j') :
    weight p e k j = weight p' e' k j' := by
  unfold weight
  rw [hp, he]

/-- The result of the region. -/
theorem final (gp : IVec S640x3456 8) (ge : IVec S40x3456 8) (up : IVec S640x3456 8) (ue : IVec S40x3456 8)
    (h0 : V c main_arg6 = gp) (h1 : V c main_arg7 = ge) (h2 : V c main_arg9 = up) (h3 : V c main_arg10 = ue) :
    (dat0 V c).arrAt 4 cfg0.N = both gp ge up ue := by
  refine (dat0 V c).arrAt_eq_of_covers 4 (both gp ge up ue) (by decide +kernel) fun t hf y => ?_
  blk_simp
  rw [after0_4, out_eq]
  subst h0 h1 h2 h3
  obtain ⟨k, q, rfl⟩ : ∃ (k : Fin 1280) (q : Fin 256), y = ix2 k q := ⟨y 0, y 1, ValueIdx.eq_ix2 y⟩
  have h := index0 t
  have ht : t.val < 27 := t.isLt
  have e0 : (win0_4.blk t).view.emb (ix2 k q) 0 = k := Fin.ext (by blk_simp [h])
  have e1 : ((win0_4.blk t).view.emb (ix2 k q) 1).val = 256 * t.val + q.val := by blk_simp [h]; omega
  unfold blk both
  simp only [e0, e1]
  have ej : (⟨128 * t.val + q.val % 128, by omega⟩ : Fin 3456)
      = ⟨128 * ((256 * t.val + q.val) / 256) + (256 * t.val + q.val) % 128, by omega⟩ := Fin.ext (by
    show 128 * t.val + q.val % 128 = 128 * ((256 * t.val + q.val) / 256) + (256 * t.val + q.val) % 128
    omega)
  by_cases hq : q.val % 256 < 128
  · rw [if_pos (show ((ix2 k q) 1).val % 256 < 128 from hq), if_pos (by omega)]
    exact weight_congr k (fun r => (iblk_gp V c t r _).trans (congrArg (fun j => V c main_arg6 (ix2 r j)) ej))
      (fun r => (iblk_ge V c t r _).trans (congrArg (fun j => V c main_arg7 (ix2 r j)) ej))
  · rw [if_neg (show ¬ ((ix2 k q) 1).val % 256 < 128 from hq), if_neg (by omega)]
    exact weight_congr k (fun r => (iblk_up V c t r _).trans (congrArg (fun j => V c main_arg9 (ix2 r j)) ej))
      (fun r => (iblk_ue V c t r _).trans (congrArg (fun j => V c main_arg10 (ix2 r j)) ej))

end Cert.KerDec
-- ==== Proof.KerRun.lean ====
module

public import proofs.«01_k».proof.Proof.KerArr
public import proofs.«01_k».proof.Proof.KerDec

/-! The kernel's run: its eight result arrays are the eight arrays of Spec over its arguments. -/

@[expose] public section

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Row Cert.Spec

/-! ## The decoded columns -/

theorem gcol_both (gp : IVec S640x3456 8) (ge : IVec S40x3456 8) (up : IVec S640x3456 8) (ue : IVec S40x3456 8) :
    KerPay.gcol (KerDec.both gp ge up ue) = Fp4.weight (fun r j => gp (ix2 r j)) (fun r j => ge (ix2 r j)) := by
  funext k j
  unfold KerPay.gcol KerDec.both
  refine (if_pos (show (256 * (j.val / 128) + j.val % 128) % 256 < 128 by omega)).trans (congrArg (Fp4.weight _ _ k) (Fin.ext ?_))
  show 128 * ((256 * (j.val / 128) + j.val % 128) / 256) + (256 * (j.val / 128) + j.val % 128) % 128 = j.val
  omega

theorem ucol_both (gp : IVec S640x3456 8) (ge : IVec S40x3456 8) (up : IVec S640x3456 8) (ue : IVec S40x3456 8) :
    KerPay.ucol (KerDec.both gp ge up ue) = Fp4.weight (fun r j => up (ix2 r j)) (fun r j => ue (ix2 r j)) := by
  funext k j
  unfold KerPay.ucol KerDec.both
  refine (if_neg (show ¬ (256 * (j.val / 128) + (128 + j.val % 128)) % 256 < 128 by omega)).trans
    (congrArg (Fp4.weight _ _ k) (Fin.ext ?_))
  show 128 * ((256 * (j.val / 128) + (128 + j.val % 128)) / 256) + (256 * (j.val / 128) + (128 + j.val % 128)) % 128 = j.val
  omega

/-- A vector laid out as one row. -/
theorem vec_row {n : Nat} (v : FVec Ideal (V1 n) .f32) (h : (V1 n).ShapeCasts (M 1 n)) :
    row (shapeCast (M 1 n) v h) 0 = fun j => v (ix1 j) := by
  funext j
  exact ValueIdx.shapeCast_a_1a_apply v h 0 j

/-! ## The buffers between the regions -/

variable (m : (ℓ : Loc nD τ sig) → Buf (Elt Ideal) ℓ) (ρ : Dev nD → PrngReg) (c : Dev nD)

theorem arg_at (a : Ref sig .tc) (h : a ∈ argRefs) : V2 m ρ c a = m ((c : Thread nD τ).loc a) := W2_args m ρ c a h

theorem v1 : V2 m ρ c main_v1 = shapeCast S1x1280 (m ((c : Thread nD τ).loc main_arg3)) shapeCasts_S1280_S1x1280 := by
  have h := W1_args m ρ c main_arg3 (by decide)
  rw [← h]
  show StableHlo.after hostOps1 (W1 m ρ c) (Proc.devRef .tc main_v1) = _
  simp (disch := decide) only [StableHlo.after_cons, StableHlo.after_nil, StableHlo.reshape_result', StableHlo.reshape_result_ne']
  rfl
theorem v2 : V2 m ρ c main_v2 = shapeCast S1x1280 (m ((c : Thread nD τ).loc main_arg4)) shapeCasts_S1280_S1x1280 := by
  have h := W1_args m ρ c main_arg4 (by decide)
  rw [← h]
  show StableHlo.after hostOps1 (W1 m ρ c) (Proc.devRef .tc main_v2) = _
  simp (disch := decide) only [StableHlo.after_cons, StableHlo.after_nil, StableHlo.reshape_result', StableHlo.reshape_result_ne']
  rfl
theorem v3 : V2 m ρ c main_v3 = shapeCast S1x1280 (m ((c : Thread nD τ).loc main_arg5)) shapeCasts_S1280_S1x1280 := by
  have h := W1_args m ρ c main_arg5 (by decide)
  rw [← h]
  show StableHlo.after hostOps1 (W1 m ρ c) (Proc.devRef .tc main_v3) = _
  simp (disch := decide) only [StableHlo.after_cons, StableHlo.after_nil, StableHlo.reshape_result', StableHlo.reshape_result_ne']
  rfl
theorem v4 : V2 m ρ c main_v4 = shapeCast S1x3456 (m ((c : Thread nD τ).loc main_arg8)) shapeCasts_S3456_S1x3456 := by
  have h := W1_args m ρ c main_arg8 (by decide)
  rw [← h]
  show StableHlo.after hostOps1 (W1 m ρ c) (Proc.devRef .tc main_v4) = _
  simp (disch := decide) only [StableHlo.after_cons, StableHlo.after_nil, StableHlo.reshape_result', StableHlo.reshape_result_ne']
  rfl
theorem v5 : V2 m ρ c main_v5 = shapeCast S1x3456 (m ((c : Thread nD τ).loc main_arg11)) shapeCasts_S3456_S1x3456 := by
  have h := W1_args m ρ c main_arg11 (by decide)
  rw [← h]
  show StableHlo.after hostOps1 (W1 m ρ c) (Proc.devRef .tc main_v5) = _
  simp (disch := decide) only [StableHlo.after_cons, StableHlo.after_nil, StableHlo.reshape_result', StableHlo.reshape_result_ne']
  rfl
theorem v6 : V2 m ρ c main_v6 = shapeCast S1x1280 (m ((c : Thread nD τ).loc main_arg13)) shapeCasts_S1280_S1x1280 := by
  have h := W1_args m ρ c main_arg13 (by decide)
  rw [← h]
  show StableHlo.after hostOps1 (W1 m ρ c) (Proc.devRef .tc main_v6) = _
  simp (disch := decide) only [StableHlo.after_cons, StableHlo.after_nil, StableHlo.reshape_result', StableHlo.reshape_result_ne']
  rfl
theorem v7 : V2 m ρ c main_v7 = shapeCast S1x1280 (m ((c : Thread nD τ).loc main_arg14)) shapeCasts_S1280_S1x1280 := by
  have h := W1_args m ρ c main_arg14 (by decide)
  rw [← h]
  show StableHlo.after hostOps1 (W1 m ρ c) (Proc.devRef .tc main_v7) = _
  simp (disch := decide) only [StableHlo.after_cons, StableHlo.after_nil, StableHlo.reshape_result', StableHlo.reshape_result_ne']
  rfl

theorem v0 : V2 m ρ c main_v0 = KerDec.both (m ((c : Thread nD τ).loc main_arg6)) (m ((c : Thread nD τ).loc main_arg7)) (m ((c : Thread nD τ).loc main_arg9)) (m ((c : Thread nD τ).loc main_arg10)) :=
  (W2_of m ρ c main_v0 (by decide)).trans ((W1_arr m ρ c 4).trans (KerDec.final (V0 m ρ) c _ _ _ _ rfl rfl rfl rfl))

/-- The weights device `c`'s arguments hold. -/
abbrev wOf : Wts := wts (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem W_eq : KerArr.W (V2 m ρ) c = wOf m c := by
  unfold KerArr.W
  rw [arg_at m ρ c main_arg2 (by decide), arg_at m ρ c main_arg12 (by decide), v0, v1, v2, v3, v4, v5, v6, v7]
  unfold KerPay.bw wOf wts
  rw [gcol_both, ucol_both, vec_row, vec_row, vec_row, vec_row, vec_row, vec_row, vec_row]

/-! ## The run -/

/-- Every buffer after the run holds what the last region leaves. -/
theorem all : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

theorem res0 : W3 m ρ c (Proc.devRef .tc main_v8_0) = T0 (m ((c : Thread nD τ).loc main_arg0)) :=
  (W3_arr m ρ c 12).trans ((KerArr.final12 (V2 m ρ) c).trans (by
    rw [arg_at m ρ c main_arg0 (by decide)]))
theorem res1 : W3 m ρ c (Proc.devRef .tc main_v8_1) = T1 (m ((c : Thread nD τ).loc main_arg0)) :=
  (W3_arr m ρ c 13).trans ((KerArr.final13 (V2 m ρ) c).trans (by
    rw [arg_at m ρ c main_arg0 (by decide)]))
theorem res2 : W3 m ρ c (Proc.devRef .tc main_v8_2) = T2 (m ((c : Thread nD τ).loc main_arg0)) :=
  (W3_arr m ρ c 14).trans ((KerArr.final14 (V2 m ρ) c).trans (by
    rw [arg_at m ρ c main_arg0 (by decide)]))
theorem res3 : W3 m ρ c (Proc.devRef .tc main_v8_3) = T3 (wOf m c) (m ((c : Thread nD τ).loc main_arg0)) (m ((c : Thread nD τ).loc main_arg1)) :=
  (W3_arr m ρ c 15).trans ((KerArr.final15 (V2 m ρ) c).trans (by
    rw [W_eq, arg_at m ρ c main_arg0 (by decide), arg_at m ρ c main_arg1 (by decide)]))
theorem res4 : W3 m ρ c (Proc.devRef .tc main_v8_4) = T4 (wOf m c) (m ((c : Thread nD τ).loc main_arg0)) (m ((c : Thread nD τ).loc main_arg1)) :=
  (W3_arr m ρ c 16).trans ((KerArr.final16 (V2 m ρ) c).trans (by
    rw [W_eq, arg_at m ρ c main_arg0 (by decide), arg_at m ρ c main_arg1 (by decide)]))
theorem res5 : W3 m ρ c (Proc.devRef .tc main_v8_5) = T5 (wOf m c) (m ((c : Thread nD τ).loc main_arg0)) (m ((c : Thread nD τ).loc main_arg1)) :=
  (W3_arr m ρ c 17).trans ((KerArr.final17 (V2 m ρ) c).trans (by
    rw [W_eq, arg_at m ρ c main_arg0 (by decide), arg_at m ρ c main_arg1 (by decide)]))
theorem res6 : W3 m ρ c (Proc.devRef .tc main_v8_6) = T6 (wOf m c) (m ((c : Thread nD τ).loc main_arg0)) (m ((c : Thread nD τ).loc main_arg1)) :=
  (W3_arr m ρ c 18).trans ((KerArr.final18 (V2 m ρ) c).trans (by
    rw [W_eq, arg_at m ρ c main_arg0 (by decide), arg_at m ρ c main_arg1 (by decide)]))
theorem res7 : W3 m ρ c (Proc.devRef .tc main_v8_7) = T7 (wOf m c) (m ((c : Thread nD τ).loc main_arg0)) (m ((c : Thread nD τ).loc main_arg1)) :=
  (W3_arr m ρ c 19).trans ((KerArr.final19 (V2 m ρ) c).trans (by
    rw [W_eq, arg_at m ρ c main_arg0 (by decide), arg_at m ρ c main_arg1 (by decide)]))

/-- The kernel runs, its results are the arrays of Spec, and its arguments are unchanged. -/
theorem run : θ_run defs (onTc (τ := τ) (main (F := Ideal))) ⟨m, fun _ => 0, ρ⟩ fun r => ∀ c : Dev nD,
      r.2.mem ((c : Thread nD τ).loc main_v8_0) = T0 (m ((c : Thread nD τ).loc main_arg0))
      ∧ r.2.mem ((c : Thread nD τ).loc main_v8_1) = T1 (m ((c : Thread nD τ).loc main_arg0))
      ∧ r.2.mem ((c : Thread nD τ).loc main_v8_2) = T2 (m ((c : Thread nD τ).loc main_arg0))
      ∧ r.2.mem ((c : Thread nD τ).loc main_v8_3) = T3 (wOf m c) (m ((c : Thread nD τ).loc main_arg0)) (m ((c : Thread nD τ).loc main_arg1))
      ∧ r.2.mem ((c : Thread nD τ).loc main_v8_4) = T4 (wOf m c) (m ((c : Thread nD τ).loc main_arg0)) (m ((c : Thread nD τ).loc main_arg1))
      ∧ r.2.mem ((c : Thread nD τ).loc main_v8_5) = T5 (wOf m c) (m ((c : Thread nD τ).loc main_arg0)) (m ((c : Thread nD τ).loc main_arg1))
      ∧ r.2.mem ((c : Thread nD τ).loc main_v8_6) = T6 (wOf m c) (m ((c : Thread nD τ).loc main_arg0)) (m ((c : Thread nD τ).loc main_arg1))
      ∧ r.2.mem ((c : Thread nD τ).loc main_v8_7) = T7 (wOf m c) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c =>
    ⟨(h c _ (mem_uc main_v8_0 (by decide))).trans (res0 m ρ c),
     (h c _ (mem_uc main_v8_1 (by decide))).trans (res1 m ρ c),
     (h c _ (mem_uc main_v8_2 (by decide))).trans (res2 m ρ c),
     (h c _ (mem_uc main_v8_3 (by decide))).trans (res3 m ρ c),
     (h c _ (mem_uc main_v8_4 (by decide))).trans (res4 m ρ c),
     (h c _ (mem_uc main_v8_5 (by decide))).trans (res5 m ρ c),
     (h c _ (mem_uc main_v8_6 (by decide))).trans (res6 m ρ c),
     (h c _ (mem_uc main_v8_7 (by decide))).trans (res7 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c),
     (h c _ (mem_uc main_arg13 (by decide))).trans (W3_main_arg13 m ρ c),
     (h c _ (mem_uc main_arg14 (by decide))).trans (W3_main_arg14 m ρ c)⟩) (all m ρ)

end Cert.KerRun
-- ==== Proof.RefPay.lean ====
module

public import proofs.«01_k».proof.Proof.Gen.ReferenceIdeal.Skeleton
public import proofs.«01_k».proof.Proof.Spec

/-! The reference's pure values, read row by row. -/

@[expose] public section

noncomputable section

namespace Cert.RefPay

open Idealize.ShloMosaic Cert.ReferenceIdeal Cert.ReferenceIdeal.Gen Cert.Row Cert.Spec

/-! ## The decoded weights -/

/-- One of the two MXFP4 matrices as the reference decodes it. -/
def decoded (e : FVec Ideal S40x3456 .bf16) (sgn : IVec S40x32x3456 1)
    (pos neg : FVec Ideal S40x32x3456 .bf16) : FVec Ideal S1280x3456 .bf16 :=
  shapeCast S1280x3456 (mulf (select sgn neg pos) (broadcastTo S40x32x3456
    (shapeCast S40x1x3456 e shapeCasts_S40x3456_S40x1x3456) broadcasts_S40x1x3456_S40x32x3456))
    shapeCasts_S40x32x3456_S1280x3456

theorem decoded_apply (e : FVec Ideal S40x3456 .bf16) (sgn : IVec S40x32x3456 1)
    (pos neg : FVec Ideal S40x32x3456 .bf16) (k : Fin 1280) (j : Fin 3456) :
    decoded e sgn pos neg (ix2 k j)
      = Scalar.select (sgn (ix3 ⟨k.val / 32, by omega⟩ ⟨k.val % 32, by omega⟩ j))
          (neg (ix3 ⟨k.val / 32, by omega⟩ ⟨k.val % 32, by omega⟩ j)) (pos (ix3 ⟨k.val / 32, by omega⟩ ⟨k.val % 32, by omega⟩ j))
        * e (ix2 ⟨k.val / 32, by omega⟩ j) := by
  pointwise [decoded]

theorem nib_apply (p : IVec S640x3456 8) (b : Fin 40) (r : Fin 32) (j : Fin 3456) :
    k0_pay14 (k0_pay12 (F := Ideal) p) (k0_pay13 (F := Ideal) p) (ix3 b r j)
      = if r.val % 2 < 1 then Fp4.nibLo (p (ix2 ⟨b.val * 16 + r.val / 2, by omega⟩ j))
        else Fp4.nibHi (p (ix2 ⟨b.val * 16 + r.val / 2, by omega⟩ j)) := by
  pointwise [k0_pay14, k0_pay12, k0_pay13]
  rfl

theorem scale_apply (e : IVec S40x3456 8) (b : Fin 40) (j : Fin 3456) :
    k0_pay11 (F := Ideal) e (ix2 b j) = Fp4.e8m0 (e (ix2 b j)) := by
  pointwise [k0_pay11]
  rfl

theorem pos_apply (n1 n2 : IVec S640x3456 32) (b : Fin 40) (r : Fin 32) (j : Fin 3456) :
    k0_pay16 (F := Ideal) n1 n2 (ix3 b r j) = Fp4.mag (k0_pay14 n1 n2 (ix3 b r j)) := by
  pointwise [k0_pay16]
  rfl

theorem neg_apply (n1 n2 : IVec S640x3456 32) (b : Fin 40) (r : Fin 32) (j : Fin 3456) :
    k0_pay17 (F := Ideal) n1 n2 (ix3 b r j) = 0 - Fp4.mag (k0_pay14 n1 n2 (ix3 b r j)) := by
  rw [← pos_apply]
  pointwise [k0_pay17]

theorem sgn_apply (n1 n2 : IVec S640x3456 32) (i : S40x32x3456.Idx) :
    k0_pay15 n1 n2 i = Fp4.bit (k0_pay14 n1 n2 i) 8#32 := rfl

/-- The decoded matrix is the matrix of weights. -/
theorem decoded_weight (p : IVec S640x3456 8) (e : IVec S40x3456 8) :
    mat (decoded (k0_pay11 e)
        (k0_pay15 (k0_pay12 (F := Ideal) p) (k0_pay13 (F := Ideal) p)) (k0_pay16 (k0_pay12 (F := Ideal) p) (k0_pay13 (F := Ideal) p))
        (k0_pay17 (k0_pay12 (F := Ideal) p) (k0_pay13 (F := Ideal) p)))
      = Fp4.weight (fun r j => p (ix2 r j)) (fun r j => e (ix2 r j)) := by
  funext k j
  unfold mat Fp4.weight
  rw [decoded_apply, sgn_apply, neg_apply, pos_apply, scale_apply, nib_apply]
  have h1 : k.val % 32 % 2 = k.val % 2 := by omega
  have h2 : k.val / 32 * 16 + k.val % 32 / 2 = k.val / 2 := by omega
  simp only [h1, h2]
  rfl

/-! ## The quantised rows -/

variable (x0 : FVec Ideal S1280x8192 .f32) (x1 : FVec Ideal S8192x1280 .bf16) (x2 : FVec Ideal S1280x1280 .fp8e4m3)
  (x3 x4 x5 : FVec Ideal S1280 .f32)

theorem attn_row (i : Fin 8192) : row (k0_pay2 x0) i = arow x0 i := by
  funext j
  unfold row arow
  pointwise [k0_pay2]

theorem attn_scale (i : Fin 8192) (z : Fin 1) : k0_pay3 (F := Ideal) x0 (ix2 i z) = scl (arow x0 i) := by
  rw [← attn_row]
  exact scaleV_apply _ _ (k0_pay2 x0) i z

theorem attn_codes (i : Fin 8192) : row (k0_pay4 x0) i = cod (arow x0 i) := by
  rw [← attn_row]
  exact codes_row _ _ (k0_pay2 x0) (k0_pay3 x0) i (by rw [attn_scale, attn_row])

/-- A vector as a matrix of one row. -/
theorem vec_row (n : Nat) (v : FVec Ideal (V1 n) .f32) (hc : (V1 n).ShapeCasts (M 1 n)) :
    row (shapeCast (M 1 n) v hc) 0 = fun j => v (ix1 j) := by
  funext j
  exact ValueIdx.shapeCast_a_1a_apply v hc 0 j

variable (x6 : IVec S640x3456 8) (x7 : IVec S40x3456 8) (x8 : FVec Ideal S3456 .f32) (x9 : IVec S640x3456 8)
  (x10 : IVec S40x3456 8) (x11 : FVec Ideal S3456 .f32) (x12 : FVec Ideal S3456x1280 .fp8e4m3) (x13 x14 : FVec Ideal S1280 .f32)

/-- The weights the arguments hold. -/
abbrev W : Wts := wts x2 x3 x4 x5 x6 x7 x8 x9 x10 x11 x12 x13 x14

/-- The residual after the output projection. -/
abbrev H : FVec Ideal S8192x1280 .f32 := k0_pay5 (F := Ideal) x1 x0 x2 x3 x4

theorem h1_row (i : Fin 8192) : row (H x0 x1 x2 x3 x4) i = h1 (W x2 x3 x4 x5 x6 x7 x8 x9 x10 x11 x12 x13 x14) (arow x0 i) (row x1 i) := by
  refine (linear_row (k := 1280) dot_S8192x1280_S1280x1280_S8192x1280_1_0_0_1_n_n_wf broadcasts_S8192x1_S8192x1280
    broadcasts_S1x1280_S8192x1280 broadcasts_S1x1280_S8192x1280 bitsLt_bf16_f32 (extf .f32 x1 bitsLt_bf16_f32)
    (k0_pay4 (F := Ideal) x0) x2 (k0_pay3 (F := Ideal) x0) (shapeCast S1x1280 x3 shapeCasts_S1280_S1x1280)
    (shapeCast S1x1280 x4 shapeCasts_S1280_S1x1280) (arow x0 i) i (attn_codes x0 i) (attn_scale x0 i 0)).trans ?_
  rw [vec_row, vec_row]
  rfl

/-- The normalised rows. -/
abbrev N : FVec Ideal S8192x1280 .f32 :=
  k0_pay7 (H x0 x1 x2 x3 x4) x5 (k0_pay6 (F := Ideal) x1 x0 x2 x3 x4) (Scalar.ofBits .f32 0x358637BD#32)
/-- Their scales and codes. -/
abbrev NS : FVec Ideal S8192x1 .f32 :=
  k0_pay8 (H x0 x1 x2 x3 x4) x5 (k0_pay6 (F := Ideal) x1 x0 x2 x3 x4) (Scalar.ofBits .f32 0x358637BD#32)
abbrev NC : FVec Ideal S8192x1280 .fp8e4m3 :=
  k0_pay9 (H x0 x1 x2 x3 x4) x5 (k0_pay6 (F := Ideal) x1 x0 x2 x3 x4) (Scalar.ofBits .f32 0x358637BD#32)
abbrev NB : FVec Ideal S8192x1280 .bf16 :=
  k0_pay10 (H x0 x1 x2 x3 x4) x5 (k0_pay6 (F := Ideal) x1 x0 x2 x3 x4) (Scalar.ofBits .f32 0x358637BD#32)

theorem nrm_row (i : Fin 8192) : row (N x0 x1 x2 x3 x4 x5) i = nrm (W x2 x3 x4 x5 x6 x7 x8 x9 x10 x11 x12 x13 x14) (arow x0 i) (row x1 i) := by
  unfold nrm
  rw [← h1_row x0 x1 x2 x3 x4 x5 x6 x7 x8 x9 x10 x11 x12 x13 x14]
  refine (rms_row reduces_S8192x1280_S8192 shapeCasts_S8192_S8192x1 broadcasts_S8192x1_S8192x1280
    broadcasts_S1x1280_S8192x1280 (H x0 x1 x2 x3 x4) (shapeCast S1x1280 x5 shapeCasts_S1280_S1x1280) i).trans ?_
  rw [vec_row]
  rfl

theorem nrm_scale (i : Fin 8192) (z : Fin 1) : NS x0 x1 x2 x3 x4 x5 (ix2 i z) = scl (nrm (W x2 x3 x4 x5 x6 x7 x8 x9 x10 x11 x12 x13 x14) (arow x0 i) (row x1 i)) := by
  rw [← nrm_row]
  exact scaleV_apply _ _ (N x0 x1 x2 x3 x4 x5) i z

theorem nrm_codes (i : Fin 8192) : row (NC x0 x1 x2 x3 x4 x5) i = cod (nrm (W x2 x3 x4 x5 x6 x7 x8 x9 x10 x11 x12 x13 x14) (arow x0 i) (row x1 i)) := by
  rw [← nrm_row]
  exact codes_row _ _ (N x0 x1 x2 x3 x4 x5) (NS x0 x1 x2 x3 x4 x5) i
    (by rw [nrm_scale x0 x1 x2 x3 x4 x5 x6 x7 x8 x9 x10 x11 x12 x13 x14, nrm_row])

/-- The gate projection. -/
abbrev G : FVec Ideal S8192x3456 .f32 :=
  k0_pay18 (NS x0 x1 x2 x3 x4 x5) (NB x0 x1 x2 x3 x4 x5) (k0_pay11 x7)
    (k0_pay15 (k0_pay12 (F := Ideal) x6) (k0_pay13 (F := Ideal) x6))
    (k0_pay16 (k0_pay12 (F := Ideal) x6) (k0_pay13 (F := Ideal) x6))
    (k0_pay17 (k0_pay12 (F := Ideal) x6) (k0_pay13 (F := Ideal) x6)) x8

/-- A projection with a decoded matrix. -/
theorem proj_row (p : IVec S640x3456 8) (e : IVec S40x3456 8) (b : FVec Ideal S3456 .f32) (i : Fin 8192) :
    row (gateV broadcasts_S8192x1_S8192x3456 broadcasts_S1x3456_S8192x3456
      (matmul (dd dot_S8192x1280_S1280x3456_S8192x3456_1_0_0_1_n_n_wf) none (NB x0 x1 x2 x3 x4 x5)
        (decoded (k0_pay11 e) (k0_pay15 (k0_pay12 (F := Ideal) p) (k0_pay13 (F := Ideal) p))
          (k0_pay16 (k0_pay12 (F := Ideal) p) (k0_pay13 (F := Ideal) p))
          (k0_pay17 (k0_pay12 (F := Ideal) p) (k0_pay13 (F := Ideal) p))) (constant S8192x3456 .f32 0x00000000#32))
        (NS x0 x1 x2 x3 x4 x5) (shapeCast S1x3456 b shapeCasts_S3456_S1x3456)) i
      = gate (nrm (W x2 x3 x4 x5 x6 x7 x8 x9 x10 x11 x12 x13 x14) (arow x0 i) (row x1 i)) (Fp4.weight (fun r j => p (ix2 r j)) (fun r j => e (ix2 r j)))
          (fun j => b (ix1 j)) := by
  refine (gate_row _ _ _ _ _ _ _ _ i (nrm_codes x0 x1 x2 x3 x4 x5 x6 x7 x8 x9 x10 x11 x12 x13 x14 i)
    (nrm_scale x0 x1 x2 x3 x4 x5 x6 x7 x8 x9 x10 x11 x12 x13 x14 i 0)).trans ?_
  rw [vec_row, decoded_weight]

/-- The activation. -/
abbrev A : FVec Ideal S8192x3456 .f32 :=
  k0_pay22 (NS x0 x1 x2 x3 x4 x5) (NB x0 x1 x2 x3 x4 x5) (G x0 x1 x2 x3 x4 x5 x6 x7 x8) (k0_pay19 x10)
    (k0_pay20 (F := Ideal) x9) (k0_pay21 (F := Ideal) x9) 2#32 x11

theorem act_eq (i : Fin 8192) : row (A x0 x1 x2 x3 x4 x5 x6 x7 x8 x9 x10 x11) i = av (W x2 x3 x4 x5 x6 x7 x8 x9 x10 x11 x12 x13 x14) (arow x0 i) (row x1 i) := by
  refine (act_row (G x0 x1 x2 x3 x4 x5 x6 x7 x8) (gateV broadcasts_S8192x1_S8192x3456 broadcasts_S1x3456_S8192x3456
      (matmul (dd dot_S8192x1280_S1280x3456_S8192x3456_1_0_0_1_n_n_wf) none (NB x0 x1 x2 x3 x4 x5)
        (decoded (k0_pay11 x10) (k0_pay15 (k0_pay12 (F := Ideal) x9) (k0_pay13 (F := Ideal) x9))
          (k0_pay16 (k0_pay12 (F := Ideal) x9) (k0_pay13 (F := Ideal) x9))
          (k0_pay17 (k0_pay12 (F := Ideal) x9) (k0_pay13 (F := Ideal) x9))) (constant S8192x3456 .f32 0x00000000#32))
        (NS x0 x1 x2 x3 x4 x5) (shapeCast S1x3456 x11 shapeCasts_S3456_S1x3456)) i).trans ?_
  rw [proj_row x0 x1 x2 x3 x4 x5 x6 x7 x8 x9 x10 x11 x12 x13 x14 x9 x10 x11 i]
  have hg : row (G x0 x1 x2 x3 x4 x5 x6 x7 x8) i = _ := proj_row x0 x1 x2 x3 x4 x5 x6 x7 x8 x9 x10 x11 x12 x13 x14 x6 x7 x8 i
  rw [hg]
  rfl

theorem act_scale (i : Fin 8192) (z : Fin 1) :
    k0_pay23 (A x0 x1 x2 x3 x4 x5 x6 x7 x8 x9 x10 x11) (ix2 i z) = scl (av (W x2 x3 x4 x5 x6 x7 x8 x9 x10 x11 x12 x13 x14) (arow x0 i) (row x1 i)) := by
  rw [← act_eq]
  exact scaleV_apply _ _ (A x0 x1 x2 x3 x4 x5 x6 x7 x8 x9 x10 x11) i z

theorem act_codes (i : Fin 8192) :
    row (k0_pay24 (A x0 x1 x2 x3 x4 x5 x6 x7 x8 x9 x10 x11)) i = cod (av (W x2 x3 x4 x5 x6 x7 x8 x9 x10 x11 x12 x13 x14) (arow x0 i) (row x1 i)) := by
  rw [← act_eq]
  exact codes_row _ _ (A x0 x1 x2 x3 x4 x5 x6 x7 x8 x9 x10 x11) (k0_pay23 (A x0 x1 x2 x3 x4 x5 x6 x7 x8 x9 x10 x11)) i
    (by rw [act_scale x0 x1 x2 x3 x4 x5 x6 x7 x8 x9 x10 x11 x12 x13 x14, act_eq])

theorem out_row (i : Fin 8192) :
    row (k0_pay25 (H x0 x1 x2 x3 x4) (A x0 x1 x2 x3 x4 x5 x6 x7 x8 x9 x10 x11) x12 x13 x14) i
      = out (W x2 x3 x4 x5 x6 x7 x8 x9 x10 x11 x12 x13 x14) (arow x0 i) (row x1 i) := by
  refine (linear_row (k := 3456) dot_S8192x3456_S3456x1280_S8192x1280_1_0_0_1_n_n_wf broadcasts_S8192x1_S8192x1280
    broadcasts_S1x1280_S8192x1280 broadcasts_S1x1280_S8192x1280 bitsLt_bf16_f32 (H x0 x1 x2 x3 x4)
    (k0_pay24 (A x0 x1 x2 x3 x4 x5 x6 x7 x8 x9 x10 x11)) x12 (k0_pay23 (A x0 x1 x2 x3 x4 x5 x6 x7 x8 x9 x10 x11))
    (shapeCast S1x1280 x13 shapeCasts_S1280_S1x1280)
    (shapeCast S1x1280 x14 shapeCasts_S1280_S1x1280) (av (W x2 x3 x4 x5 x6 x7 x8 x9 x10 x11 x12 x13 x14) (arow x0 i) (row x1 i)) i
    (act_codes x0 x1 x2 x3 x4 x5 x6 x7 x8 x9 x10 x11 x12 x13 x14 i)
    (act_scale x0 x1 x2 x3 x4 x5 x6 x7 x8 x9 x10 x11 x12 x13 x14 i 0)).trans ?_
  rw [vec_row, vec_row, h1_row x0 x1 x2 x3 x4 x5 x6 x7 x8 x9 x10 x11 x12 x13 x14]
  rfl

/-- A column of scales as a row. -/
theorem turn_apply (s : FVec Ideal S8192x1 .f32) (z : Fin 1) (i : Fin 8192) :
    shapeCast S1x8192 s shapeCasts_S8192x1_S1x8192 (ix2 z i) = s (ix2 i 0) := by
  pointwise []

theorem turn_eq (s : FVec Ideal S8192x1 .f32) (f : Fin 8192 → EReal) (h : ∀ i, s (ix2 i 0) = f i) :
    shapeCast S1x8192 s shapeCasts_S8192x1_S1x8192 = fun i => f (i 1) := by
  funext i
  obtain ⟨z, r, rfl⟩ : ∃ (z : Fin 1) (r : Fin 8192), i = ix2 z r := ⟨i 0, i 1, ValueIdx.eq_ix2 i⟩
  exact (turn_apply s z r).trans (h r)

/-! ## The eight results -/

theorem r0 : k0_pay2 (F := Ideal) x0 = T0 x0 := by
  funext i
  rw [ValueIdx.eq_ix2 i]
  exact congrFun (attn_row x0 (i 0)) (i 1)
theorem r1 : k0_pay4 (F := Ideal) x0 = T1 x0 := by
  funext i
  rw [ValueIdx.eq_ix2 i]
  exact congrFun (attn_codes x0 (i 0)) (i 1)
theorem r2 : k0_pay26 (k0_pay3 (F := Ideal) x0) = T2 x0 :=
  turn_eq _ _ fun i => attn_scale x0 i 0
theorem r3 : NC x0 x1 x2 x3 x4 x5 = T3 (W x2 x3 x4 x5 x6 x7 x8 x9 x10 x11 x12 x13 x14) x0 x1 := by
  funext i
  rw [ValueIdx.eq_ix2 i]
  exact congrFun (nrm_codes x0 x1 x2 x3 x4 x5 x6 x7 x8 x9 x10 x11 x12 x13 x14 (i 0)) (i 1)
theorem r4 : k0_pay27 (NS x0 x1 x2 x3 x4 x5) = T4 (W x2 x3 x4 x5 x6 x7 x8 x9 x10 x11 x12 x13 x14) x0 x1 :=
  turn_eq _ _ fun i => nrm_scale x0 x1 x2 x3 x4 x5 x6 x7 x8 x9 x10 x11 x12 x13 x14 i 0
theorem r5 : k0_pay24 (A x0 x1 x2 x3 x4 x5 x6 x7 x8 x9 x10 x11) = T5 (W x2 x3 x4 x5 x6 x7 x8 x9 x10 x11 x12 x13 x14) x0 x1 := by
  funext i
  rw [ValueIdx.eq_ix2 i]
  exact congrFun (act_codes x0 x1 x2 x3 x4 x5 x6 x7 x8 x9 x10 x11 x12 x13 x14 (i 0)) (i 1)
theorem r6 : k0_pay1 (k0_pay23 (A x0 x1 x2 x3 x4 x5 x6 x7 x8 x9 x10 x11)) = T6 (W x2 x3 x4 x5 x6 x7 x8 x9 x10 x11 x12 x13 x14) x0 x1 :=
  turn_eq _ _ fun i => act_scale x0 x1 x2 x3 x4 x5 x6 x7 x8 x9 x10 x11 x12 x13 x14 i 0
theorem r7 : k0_pay25 (H x0 x1 x2 x3 x4) (A x0 x1 x2 x3 x4 x5 x6 x7 x8 x9 x10 x11) x12 x13 x14 = T7 (W x2 x3 x4 x5 x6 x7 x8 x9 x10 x11 x12 x13 x14) x0 x1 := by
  funext i
  rw [ValueIdx.eq_ix2 i]
  exact congrFun (out_row x0 x1 x2 x3 x4 x5 x6 x7 x8 x9 x10 x11 x12 x13 x14 (i 0)) (i 1)

end Cert.RefPay
-- ==== Proof.RefRun.lean ====
module

public import proofs.«01_k».proof.Proof.Gen.ReferenceIdeal.Value
public import proofs.«01_k».proof.Proof.RefPay

/-! The reference's run: its eight result arrays are the eight arrays of Spec. -/

@[expose] public section

noncomputable section

namespace Cert.RefRun

open Idealize.ShloMosaic Idealize.ShloMosaic.TcCoe Idealize.SL.Sem Cert.ReferenceIdeal Cert.ReferenceIdeal.Gen Cert.ReferenceIdeal.Value Cert.Spec

theorem z1 : (![0] : Fin 1 → Nat) = fun _ => 0 := funext fun a => by fin_cases a <;> rfl
theorem z2 : (![0, 0] : Fin 2 → Nat) = fun _ => 0 := funext fun a => by fin_cases a <;> rfl

theorem ld0 (x : Vec Ideal S8192x1280 .bf16) : View.ld x r0_0 = x := View.ld_unit_zero (S := S8192x1280) z2 _ x
theorem ld1 (x : Vec Ideal S1280x8192 .f32) : View.ld x r0_1 = x := View.ld_unit_zero (S := S1280x8192) z2 _ x
theorem ld2 (x : Vec Ideal S1280x1280 .fp8e4m3) : View.ld x r0_2 = x := View.ld_unit_zero (S := S1280x1280) z2 _ x
theorem ld3 (x : Vec Ideal S1280 .f32) : View.ld x r0_3 = x := View.ld_unit_zero (S := S1280) z1 _ x
theorem ld4 (x : Vec Ideal S640x3456 .i8) : View.ld x r0_4 = x := View.ld_unit_zero (S := S640x3456) z2 _ x
theorem ld5 (x : Vec Ideal S40x3456 .i8) : View.ld x r0_5 = x := View.ld_unit_zero (S := S40x3456) z2 _ x
theorem ld6 (x : Vec Ideal S3456 .f32) : View.ld x r0_6 = x := View.ld_unit_zero (S := S3456) z1 _ x

variable (x0 : Vec Ideal S1280x8192 .f32) (x1 : Vec Ideal S8192x1280 .bf16) (x2 : Vec Ideal S1280x1280 .fp8e4m3) (x3 : Vec Ideal S1280 .f32) (x4 : Vec Ideal S1280 .f32) (x5 : Vec Ideal S1280 .f32) (x6 : Vec Ideal S640x3456 .i8) (x7 : Vec Ideal S40x3456 .i8) (x8 : Vec Ideal S3456 .f32) (x9 : Vec Ideal S640x3456 .i8) (x10 : Vec Ideal S40x3456 .i8) (x11 : Vec Ideal S3456 .f32) (x12 : Vec Ideal S3456x1280 .fp8e4m3) (x13 : Vec Ideal S1280 .f32) (x14 : Vec Ideal S1280 .f32)

theorem g0 : G15 x0 x1 x2 x3 x4 x5 x6 x7 x8 x9 x10 x11 x12 x13 x14 = T0 x0 := by
  exact RefPay.r0 x0

theorem g1 : G16 x0 x1 x2 x3 x4 x5 x6 x7 x8 x9 x10 x11 x12 x13 x14 = T1 x0 := by
  exact RefPay.r1 x0

theorem g2 : G17 x0 x1 x2 x3 x4 x5 x6 x7 x8 x9 x10 x11 x12 x13 x14 = T2 x0 := by
  exact RefPay.r2 x0

theorem g3 : G18 x0 x1 x2 x3 x4 x5 x6 x7 x8 x9 x10 x11 x12 x13 x14 = T3 (RefPay.W x2 x3 x4 x5 x6 x7 x8 x9 x10 x11 x12 x13 x14) x0 x1 := by
  unfold G18
  simp only [k0_pay28, k0_pay29, k0_pay30, k0_pay31, k0_pay32, k0_pay33, k0_pay34, ld0, ld1, ld2, ld3, ld4, ld5, ld6]
  exact RefPay.r3 x0 x1 x2 x3 x4 x5 x6 x7 x8 x9 x10 x11 x12 x13 x14

theorem g4 : G19 x0 x1 x2 x3 x4 x5 x6 x7 x8 x9 x10 x11 x12 x13 x14 = T4 (RefPay.W x2 x3 x4 x5 x6 x7 x8 x9 x10 x11 x12 x13 x14) x0 x1 := by
  unfold G19
  simp only [k0_pay28, k0_pay29, k0_pay30, k0_pay31, k0_pay32, k0_pay33, k0_pay34, ld0, ld1, ld2, ld3, ld4, ld5, ld6]
  exact RefPay.r4 x0 x1 x2 x3 x4 x5 x6 x7 x8 x9 x10 x11 x12 x13 x14

theorem g5 : G20 x0 x1 x2 x3 x4 x5 x6 x7 x8 x9 x10 x11 x12 x13 x14 = T5 (RefPay.W x2 x3 x4 x5 x6 x7 x8 x9 x10 x11 x12 x13 x14) x0 x1 := by
  unfold G20
  simp only [k0_pay28, k0_pay29, k0_pay30, k0_pay31, k0_pay32, k0_pay33, k0_pay34, ld0, ld1, ld2, ld3, ld4, ld5, ld6]
  exact RefPay.r5 x0 x1 x2 x3 x4 x5 x6 x7 x8 x9 x10 x11 x12 x13 x14

theorem g6 : G21 x0 x1 x2 x3 x4 x5 x6 x7 x8 x9 x10 x11 x12 x13 x14 = T6 (RefPay.W x2 x3 x4 x5 x6 x7 x8 x9 x10 x11 x12 x13 x14) x0 x1 := by
  unfold G21
  simp only [k0_pay28, k0_pay29, k0_pay30, k0_pay31, k0_pay32, k0_pay33, k0_pay34, ld0, ld1, ld2, ld3, ld4, ld5, ld6]
  exact RefPay.r6 x0 x1 x2 x3 x4 x5 x6 x7 x8 x9 x10 x11 x12 x13 x14

theorem g7 : G22 x0 x1 x2 x3 x4 x5 x6 x7 x8 x9 x10 x11 x12 x13 x14 = T7 (RefPay.W x2 x3 x4 x5 x6 x7 x8 x9 x10 x11 x12 x13 x14) x0 x1 := by
  unfold G22
  simp only [k0_pay28, k0_pay29, k0_pay30, k0_pay31, k0_pay32, k0_pay33, k0_pay34, ld0, ld1, ld2, ld3, ld4, ld5, ld6]
  exact RefPay.r7 x0 x1 x2 x3 x4 x5 x6 x7 x8 x9 x10 x11 x12 x13 x14

variable (m : (ℓ : Loc nD τ sig) → Buf (Elt Ideal) ℓ) (ρ : Dev nD → PrngReg)

/-- The weights device `c`'s arguments hold. -/
abbrev wOf (c : Dev nD) : Wts := RefPay.W (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The reference runs, its results are the arrays of Spec, and its arguments are unchanged. -/
theorem run : θ_run defs (onTc (τ := τ) (main (F := Ideal))) ⟨m, fun _ => 0, ρ⟩ fun r => ∀ c : Dev nD,
      r.2.mem ((c : Thread nD τ).loc main_v0_0) = T0 (m ((c : Thread nD τ).loc main_arg0))
      ∧ r.2.mem ((c : Thread nD τ).loc main_v0_1) = T1 (m ((c : Thread nD τ).loc main_arg0))
      ∧ r.2.mem ((c : Thread nD τ).loc main_v0_2) = T2 (m ((c : Thread nD τ).loc main_arg0))
      ∧ r.2.mem ((c : Thread nD τ).loc main_v0_3) = T3 (wOf m c) (m ((c : Thread nD τ).loc main_arg0)) (m ((c : Thread nD τ).loc main_arg1))
      ∧ r.2.mem ((c : Thread nD τ).loc main_v0_4) = T4 (wOf m c) (m ((c : Thread nD τ).loc main_arg0)) (m ((c : Thread nD τ).loc main_arg1))
      ∧ r.2.mem ((c : Thread nD τ).loc main_v0_5) = T5 (wOf m c) (m ((c : Thread nD τ).loc main_arg0)) (m ((c : Thread nD τ).loc main_arg1))
      ∧ r.2.mem ((c : Thread nD τ).loc main_v0_6) = T6 (wOf m c) (m ((c : Thread nD τ).loc main_arg0)) (m ((c : Thread nD τ).loc main_arg1))
      ∧ r.2.mem ((c : Thread nD τ).loc main_v0_7) = T7 (wOf m c) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => by
    obtain ⟨h0, h1, h2, h3, h4, h5, h6, h7, hk⟩ := h c
    exact ⟨h0.trans (g0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), h1.trans (g1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), h2.trans (g2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), h3.trans (g3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), h4.trans (g4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), h5.trans (g5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), h6.trans (g6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), h7.trans (g7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))), hk⟩) (Value.run (F := Ideal) m ρ)

end Cert.RefRun
-- ==== Proof.QkvBlk.lean ====
module

public import proofs.«01_k».proof.Proof.Gen.QkvKernelIdeal.Frame
public import Idealize.ShloMosaic.Lib.Pipeline.Value
public import Idealize.ShloMosaic.Lib.ValueLayout
public import Idealize.ShloMosaic.Lib.Pointwise

/-! What one grid point of the q/k/v region leaves in its output blocks, as functions of its input blocks. The 48 heads
are cut out of loops unrolled in the kernel; each is the same function of its rows of the weights. The first point also
spreads the scales and biases over 128 lanes in two scratch arrays, which the later points read. -/

@[expose] public section

noncomputable section

namespace Cert.QkvBlk

open Idealize.ShloMosaic Idealize.ShloMosaic.TcCoe Idealize.SL.Sem Cert.QkvKernelIdeal Cert.QkvKernelIdeal.Gen

variable {F : FTy → Type} [FloatOps F]

theorem z2 : (![0, 0] : Fin 2 → Nat) = fun _ => 0 := funext fun a => by fin_cases a <;> rfl

/-! ## One head -/

/-- The linear layer's outputs of a head from its products: scaled by the positions and by `ws`, shifted by `wb`. -/
def lin80 (sc : FVec F S1x256 .f32) (a : FVec F S80x256 .f32) (ws wb : FVec F S80x128 .f32) : FVec F S80x256 .f32 :=
  concatenate S80x256 1
    [⟨S80x128, addf (mulf (mulf (extractStridedSlice S80x128 ![0, 0] a slices_S80x256_o0_0_S80x128)
        (broadcastTo S80x128 (extractStridedSlice S1x128 ![0, 0] sc slices_S1x256_o0_0_S1x128) broadcasts_S1x128_S80x128)) ws) wb⟩,
     ⟨S80x128, addf (mulf (mulf (extractStridedSlice S80x128 ![0, 128] a slices_S80x256_o0_128_S80x128)
        (broadcastTo S80x128 (extractStridedSlice S1x128 ![0, 128] sc slices_S1x256_o0_128_S1x128) broadcasts_S1x128_S80x128)) ws) wb⟩]
    concatenates_S80x128_S80x128_S80x256_d1

/-- The head turned by its positions' angles. -/
def rope80 (cT sT y : FVec F S80x256 .f32) : FVec F S80x256 .f32 :=
  addf (mulf y cT) (mulf (concatenate S80x256 0
    [⟨S40x256, subf (broadcast S40x256 (Scalar.ofBits (F := F) .f32 0x00000000#32)) (extractStridedSlice S40x256 ![40, 0] y slices_S80x256_o40_0_S40x256)⟩,
     ⟨S40x256, extractStridedSlice S40x256 ![0, 0] y slices_S80x256_o0_0_S40x256⟩] concatenates_S40x256_S40x256_S80x256_d0) sT)

/-- A key head with its 48 further rows below, turned round. -/
def key (y : FVec F S80x256 .bf16) (ka : FVec F S48x256 .bf16) : FVec F S1x256x128 .bf16 :=
  shapeCast S1x256x128 (transpose S256x128 [1, 0] (concatenate S128x256 0 [⟨S80x256, y⟩, ⟨S48x256, ka⟩]
    concatenates_S80x256_S48x256_S128x256_d0) transposes_S128x256_p1_0_S256x128) shapeCasts_S256x128_S1x256x128

theorem inC (z : Fin 3) (n : Fin 16) : ∀ a, (![1280 * z.val + 640 * (n.val / 8), 0] : Fin 2 → Nat) a + S640x1280.size a ≤ S3840x1280.size a := fun a => by
  have := z.isLt
  have := n.isLt
  match a with
  | ⟨0, _⟩ => show 1280 * z.val + 640 * (n.val / 8) + 640 ≤ 3840; omega
  | ⟨1, _⟩ => exact Nat.le_refl _

theorem inS (z : Fin 3) (n : Fin 16) : ∀ a, (![1280 * z.val + 80 * n.val, 0] : Fin 2 → Nat) a + S80x128.size a ≤ S3840x128.size a := fun a => by
  have := z.isLt
  have := n.isLt
  match a with
  | ⟨0, _⟩ => show 1280 * z.val + 80 * n.val + 80 ≤ 3840; omega
  | ⟨1, _⟩ => exact Nat.le_refl _

theorem inH (n : Fin 16) : S640x256.Slices ![80 * (n.val % 8), 0] S80x256 := ⟨rfl, fun a => by
  match a with
  | ⟨0, _⟩ => show 80 * (n.val % 8) + 80 ≤ 640; omega
  | ⟨1, _⟩ => exact Nat.le_refl _⟩

theorem inQ (n : Fin 16) : ∀ a, (![80 * n.val, 0] : Fin 2 → Nat) a + S80x256.size a ≤ S1280x256.size a := fun a => by
  have := n.isLt
  match a with
  | ⟨0, _⟩ => show 80 * n.val + 80 ≤ 1280; omega
  | ⟨1, _⟩ => exact Nat.le_refl _

theorem inK (n : Fin 16) : ∀ a, (![n.val, 0, 0] : Fin 3 → Nat) a + S1x256x128.size a ≤ S16x256x128.size a := fun a => by
  have := n.isLt
  match a with
  | ⟨0, _⟩ => show n.val + 1 ≤ 16; omega
  | ⟨1, _⟩ => exact Nat.le_refl _
  | ⟨2, _⟩ => exact Nat.le_refl _

/-- The rows of head `n`. -/
abbrev rowsQ (n : Fin 16) : Rect S1280x256 := Rect.unit ![80 * n.val, 0] S80x256.size (inQ n)
abbrev planeK (n : Fin 16) : Rect S16x256x128 := Rect.unit ![n.val, 0, 0] S1x256x128.size (inK n)

section
variable (sc : FVec F S1x256 .f32) (cd : FVec F S256x1280 .fp8e4m3) (x2 : Vec F S3840x1280 .fp8e4m3) (s b : FVec F S3840x128 .f32)

/-- The linear layer's outputs of head `n` of group `z`: `sc` and `cd` are the positions' scales and codes, `x2` the
weights, `s` and `b` the scales and biases of its outputs. -/
def hd (z : Fin 3) (n : Fin 16) : FVec F S80x256 .f32 :=
  lin80 sc (extractStridedSlice S80x256 ![80 * (n.val % 8), 0] (k0_pay17 cd
      (View.ld (Val := Elt F) (e' := .fp8e4m3) x2 (Rect.unit ![1280 * z.val + 640 * (n.val / 8), 0] S640x1280.size (inC z n)))) (inH n))
    (View.ld (Val := Elt F) (e' := .f32) s (Rect.unit ![1280 * z.val + 80 * n.val, 0] S80x128.size (inS z n)))
    (View.ld (Val := Elt F) (e' := .f32) b (Rect.unit ![1280 * z.val + 80 * n.val, 0] S80x128.size (inS z n)))
end

/-- Sixteen heads, one under the other. -/
def stack (t : Fin 16 → FVec F S80x256 .bf16) : Vec F S1280x256 .bf16 := fun i =>
  t ⟨(i 0).val / 80, by have := (i 0).isLt; change (i 0).val < 1280 at this; omega⟩
    (ix2 ⟨(i 0).val % 80, Nat.mod_lt _ (by decide)⟩ (i 1))

theorem stack_at (t : Fin 16 → FVec F S80x256 .bf16) (n : Fin 16) (x : S80x256.Idx) :
    t n x = stack t ((rowsQ n).emb x) := by
  obtain ⟨r, j, rfl⟩ : ∃ (r : Fin 80) (j : Fin 256), x = ix2 r j := ⟨x 0, x 1, ValueIdx.eq_ix2 x⟩
  have h1 : (rowsQ n).emb (ix2 r j) 1 = j := Fin.ext (by show 0 + 1 * j.val = j.val; omega)
  have h0 : ((rowsQ n).emb (ix2 r j) 0).val = 80 * n.val + r.val := by
    show 80 * n.val + 1 * r.val = _; omega
  have e0 : (⟨((rowsQ n).emb (ix2 r j) 0).val / 80, by rw [h0]; have := n.isLt; have := r.isLt; omega⟩ : Fin 16) = n :=
    Fin.ext (by show ((rowsQ n).emb (ix2 r j) 0).val / 80 = n.val; rw [h0]; have := r.isLt; omega)
  have e1 : (⟨((rowsQ n).emb (ix2 r j) 0).val % 80, Nat.mod_lt _ (by decide)⟩ : Fin 80) = r :=
    Fin.ext (by show ((rowsQ n).emb (ix2 r j) 0).val % 80 = r.val; rw [h0]; have := r.isLt; omega)
  show t n (ix2 r j) = t _ (ix2 _ ((rowsQ n).emb (ix2 r j) 1))
  rw [e0, e1, h1]

/-- Sixteen planes. -/
def planes (t : Fin 16 → FVec F S1x256x128 .bf16) : Vec F S16x256x128 .bf16 := fun i => t (i 0) (ix3 0 (i 1) (i 2))

theorem planes_at (t : Fin 16 → FVec F S1x256x128 .bf16) (n : Fin 16) (x : S1x256x128.Idx) :
    t n x = planes t ((planeK n).emb x) := by
  obtain ⟨z, r, j, rfl⟩ : ∃ (z : Fin 1) (r : Fin 256) (j : Fin 128), x = ix3 z r j := ⟨x 0, x 1, x 2, ValueIdx.eq_ix3 x⟩
  have h0 : (planeK n).emb (ix3 z r j) 0 = n := Fin.ext (by show n.val + 1 * z.val = n.val; omega)
  have h1 : (planeK n).emb (ix3 z r j) 1 = r := Fin.ext (by show 0 + 1 * r.val = r.val; omega)
  have h2 : (planeK n).emb (ix3 z r j) 2 = j := Fin.ext (by show 0 + 1 * j.val = j.val; omega)
  show t n (ix3 z r j) = t ((planeK n).emb (ix3 z r j) 0) (ix3 0 ((planeK n).emb (ix3 z r j) 1) ((planeK n).emb (ix3 z r j) 2))
  rw [h0, h1, h2, Subsingleton.elim z 0]

/-! ## The scratch arrays -/

theorem covW (w : FVec F S3840x128 .f32) (h) :
    View.canon [(⟨Rect.unit ![0, 0] S3840x128.size h, w⟩ : View.Piece (Elt F) S3840x128 .f32)] = w :=
  View.canon_unit_zero (S := S3840x128) (e := .f32) (Val := Elt F) z2 h w

theorem cov1 (w : FVec F S3840x128 .f32) (v : View sig .tc .vmem S3840x128 .f32) (h) :
    View.read (Elt F) v (v.writes (Elt F) v.junk [(⟨Rect.unit ![0, 0] S3840x128.size h, w⟩ : View.Piece (Elt F) S3840x128 .f32)]) = w :=
  (View.read_writes_eq_canon v v.junk _ (View.cover_of_tiledL (s := S3840x128) _ ![3840, 128] (by sl_kernel_rfl))).trans (covW w h)

theorem cov0 (w : FVec F S3840x128 .f32) (v : View sig .tc .vmem S3840x128 .f32) (o : Fin 2 → Nat) (h) (h') :
    v.readCov [(⟨Rect.unit ![0, 0] ![3840, 128] h, w⟩ : View.Piece (Elt F) S3840x128 .f32)]
      (Rect.unit (s := S3840x128) o ![80, 128] h').toLoadRect = View.ld (Val := Elt F) (e' := .f32) w (Rect.unit (s := S3840x128) o ![80, 128] h') := by
  unfold View.readCov
  rw [View.readAt_eq_ld]
  exact congrArg (fun u => View.ld (Val := Elt F) (e' := .f32) u (Rect.unit (s := S3840x128) o ![80, 128] h')) (cov1 w v h)

theorem rd0 (h : scM0_0.IsWhole) (x : FVec F S3840x128 .f32) : View.read (Elt F) (View.whole cc0_scratch0) (h.unread (Val := Elt F) x) = x := h.read_unread (Val := Elt F) x
theorem rd1 (h : scM0_1.IsWhole) (x : FVec F S3840x128 .f32) : View.read (Elt F) (View.whole cc0_scratch1) (h.unread (Val := Elt F) x) = x := h.read_unread (Val := Elt F) x

variable (m : (ℓ : Loc nD τ sig) → Buf (Elt F) ℓ) (c : Dev nD) (t : Fin cfg0.N)

set_option maxHeartbeats 2000000 in
theorem scrA0 (h0 : t.val % 32 = 0) : (outsAt0 m c t.val t.isLt).2.2.2.2.2.2.1 = k0_pay2 (iblk m c 3 t) := by
  rw [outsAt0_A m c t h0]
  dsimp only
  unfold sout0_A_0
  rw [View.read_writes_eq_canon _ _ _ (fun y => by apply scover0_A_0)]
  unfold kernelRun0_A; dsimp only; sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2]

theorem scrB0 (h0 : ¬ t.val % 32 = 0) : (outsAt0 m c t.val t.isLt).2.2.2.2.2.2.1
    = (outsAt0 m c (t.val - 1) (Nat.lt_of_le_of_lt (Nat.sub_le _ _) t.isLt)).2.2.2.2.2.2.1 := by
  rw [outsAt0_B m c t h0]
  rfl

theorem same3 (t' : Fin cfg0.N) : iblk m c 3 t = iblk m c 3 t' := rfl

/-- The scratch array after any point. -/
theorem scr0 : ∀ (n : Nat) (h : n < cfg0.N), (outsAt0 m c n h).2.2.2.2.2.2.1 = k0_pay2 (iblk m c 3 t)
  | 0, h => scrA0 m c ⟨0, h⟩ rfl
  | n + 1, h => (scrB0 m c ⟨n + 1, h⟩ (by have : n + 1 < 32 := h; show ¬ (n + 1) % 32 = 0; omega)).trans (scr0 n (Nat.lt_of_succ_lt h))

set_option maxHeartbeats 2000000 in
theorem scrA1 (h0 : t.val % 32 = 0) : (outsAt0 m c t.val t.isLt).2.2.2.2.2.2.2 = k0_pay3 (iblk m c 4 t) := by
  rw [outsAt0_A m c t h0]
  dsimp only
  unfold sout0_A_1
  rw [View.read_writes_eq_canon _ _ _ (fun y => by apply scover0_A_1)]
  unfold kernelRun0_A; dsimp only; sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2]

theorem scrB1 (h0 : ¬ t.val % 32 = 0) : (outsAt0 m c t.val t.isLt).2.2.2.2.2.2.2
    = (outsAt0 m c (t.val - 1) (Nat.lt_of_le_of_lt (Nat.sub_le _ _) t.isLt)).2.2.2.2.2.2.2 := by
  rw [outsAt0_B m c t h0]
  rfl

theorem same4 (t' : Fin cfg0.N) : iblk m c 4 t = iblk m c 4 t' := rfl

/-- The scratch array after any point. -/
theorem scr1 : ∀ (n : Nat) (h : n < cfg0.N), (outsAt0 m c n h).2.2.2.2.2.2.2 = k0_pay3 (iblk m c 4 t)
  | 0, h => scrA1 m c ⟨0, h⟩ rfl
  | n + 1, h => (scrB1 m c ⟨n + 1, h⟩ (by have : n + 1 < 32 := h; show ¬ (n + 1) % 32 = 0; omega)).trans (scr1 n (Nat.lt_of_succ_lt h))

/-! ## The output blocks -/

/-- The scales and codes of the block of point `t`, and its heads. -/
abbrev scB : FVec F S1x256 .f32 := k0_pay7 (iblk m c 0 t) (iblk m c 1 t)
abbrev cdB : FVec F S256x1280 .fp8e4m3 := k0_pay6 (iblk m c 0 t) (iblk m c 1 t)
abbrev hdB : Fin 3 → Fin 16 → FVec F S80x256 .f32 :=
  hd (scB m c t) (cdB m c t) (iblk m c 2 t) (k0_pay2 (iblk m c 3 t)) (k0_pay3 (iblk m c 4 t))
abbrev roB (z : Fin 3) (n : Fin 16) : FVec F S80x256 .bf16 :=
  truncf .bf16 (rope80 (k0_pay8 (iblk m c 5 t)) (k0_pay9 (iblk m c 6 t)) (hdB m c t z n)) bitsLt_bf16_f32
abbrev qB : Fin 16 → FVec F S80x256 .bf16 := roB m c t 0
abbrev kB (ka : FVec F S48x256 .bf16) (n : Fin 16) : FVec F S1x256x128 .bf16 := key (roB m c t 1 n) ka
abbrev vB (n : Fin 16) : FVec F S80x256 .bf16 := truncf .bf16 (hdB m c t 2 n) bitsLt_bf16_f32

set_option maxHeartbeats 2000000 in
theorem oA8 (h0 : t.val % 32 = 0) : (outsAt0 m c t.val t.isLt).1 = k0_pay6 (iblk m c 0 t) (iblk m c 1 t) := by
  rw [outsAt0_A m c t h0]
  dsimp only
  unfold out0_A_8
  rw [View.read_writes_eq_canon _ _ _ (fun y => by apply cover0_A_8)]
  unfold kernelRun0_A; dsimp only; sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2]

set_option maxHeartbeats 2000000 in
theorem oA9 (h0 : t.val % 32 = 0) : (outsAt0 m c t.val t.isLt).2.1 = k0_pay7 (iblk m c 0 t) (iblk m c 1 t) := by
  rw [outsAt0_A m c t h0]
  dsimp only
  unfold out0_A_9
  rw [View.read_writes_eq_canon _ _ _ (fun y => by apply cover0_A_9)]
  unfold kernelRun0_A; dsimp only; sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2]

set_option maxHeartbeats 4000000 in
theorem oA10 (h0 : t.val % 32 = 0) : (outsAt0 m c t.val t.isLt).2.2.1 = stack (qB m c t) := by
  rw [outsAt0_A m c t h0]
  dsimp only
  unfold out0_A_10
  rw [View.read_writes_eq_canon _ _ _ (fun y => by apply cover0_A_10)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2, cov0]
  funext j
  refine View.canon_apply_of_pieces (stack (qB m c t)) _ ?_ _ ?_
  · simp only [List.forall_mem_cons]
    exact ⟨stack_at (qB m c t) 15, stack_at (qB m c t) 14, stack_at (qB m c t) 13, stack_at (qB m c t) 12, stack_at (qB m c t) 11, stack_at (qB m c t) 10, stack_at (qB m c t) 9, stack_at (qB m c t) 8, stack_at (qB m c t) 7, stack_at (qB m c t) 6, stack_at (qB m c t) 5, stack_at (qB m c t) 4, stack_at (qB m c t) 3, stack_at (qB m c t) 2, stack_at (qB m c t) 1, stack_at (qB m c t) 0, fun _ h => absurd h List.not_mem_nil⟩
  · exact View.cover_of_tiledL (s := S1280x256) _ ![80, 256] (by sl_kernel_rfl) _

set_option maxHeartbeats 4000000 in
theorem oA13 (h0 : t.val % 32 = 0) : (outsAt0 m c t.val t.isLt).2.2.2.2.2.1 = stack (vB m c t) := by
  rw [outsAt0_A m c t h0]
  dsimp only
  unfold out0_A_13
  rw [View.read_writes_eq_canon _ _ _ (fun y => by apply cover0_A_13)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2, cov0]
  funext j
  refine View.canon_apply_of_pieces (stack (vB m c t)) _ ?_ _ ?_
  · simp only [List.forall_mem_cons]
    exact ⟨stack_at (vB m c t) 15, stack_at (vB m c t) 14, stack_at (vB m c t) 13, stack_at (vB m c t) 12, stack_at (vB m c t) 11, stack_at (vB m c t) 10, stack_at (vB m c t) 9, stack_at (vB m c t) 8, stack_at (vB m c t) 7, stack_at (vB m c t) 6, stack_at (vB m c t) 5, stack_at (vB m c t) 4, stack_at (vB m c t) 3, stack_at (vB m c t) 2, stack_at (vB m c t) 1, stack_at (vB m c t) 0, fun _ h => absurd h List.not_mem_nil⟩
  · exact View.cover_of_tiledL (s := S1280x256) _ ![80, 256] (by sl_kernel_rfl) _

set_option maxHeartbeats 4000000 in
theorem oA12 (h0 : t.val % 32 = 0) : ∃ ka, (outsAt0 m c t.val t.isLt).2.2.2.2.1 = planes (kB m c t ka) := by
  rw [outsAt0_A m c t h0]
  dsimp only
  unfold out0_A_12
  rw [View.read_writes_eq_canon _ _ _ (fun y => by apply cover0_A_12)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2, cov0]
  apply Exists.intro
  funext j
  refine View.canon_apply_of_pieces _ _ ?_ _ ?_
  · simp only [List.forall_mem_cons]
    exact ⟨planes_at (kB m c t _) 15, planes_at (kB m c t _) 14, planes_at (kB m c t _) 13, planes_at (kB m c t _) 12, planes_at (kB m c t _) 11, planes_at (kB m c t _) 10, planes_at (kB m c t _) 9, planes_at (kB m c t _) 8, planes_at (kB m c t _) 7, planes_at (kB m c t _) 6, planes_at (kB m c t _) 5, planes_at (kB m c t _) 4, planes_at (kB m c t _) 3, planes_at (kB m c t _) 2, planes_at (kB m c t _) 1, planes_at (kB m c t _) 0, fun _ h => absurd h List.not_mem_nil⟩
  · exact View.cover_of_tiledL (s := S16x256x128) _ ![1, 256, 128] (by sl_kernel_rfl) _

set_option maxHeartbeats 2000000 in
theorem oB8 (h0 : ¬ t.val % 32 = 0) : (outsAt0 m c t.val t.isLt).1 = k0_pay6 (iblk m c 0 t) (iblk m c 1 t) := by
  rw [outsAt0_B m c t h0]
  dsimp only
  unfold out0_B_8
  rw [View.read_writes_eq_canon _ _ _ (fun y => by apply cover0_B_8)]
  unfold kernelRun0_B; dsimp only; sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2]

set_option maxHeartbeats 2000000 in
theorem oB9 (h0 : ¬ t.val % 32 = 0) : (outsAt0 m c t.val t.isLt).2.1 = k0_pay7 (iblk m c 0 t) (iblk m c 1 t) := by
  rw [outsAt0_B m c t h0]
  dsimp only
  unfold out0_B_9
  rw [View.read_writes_eq_canon _ _ _ (fun y => by apply cover0_B_9)]
  unfold kernelRun0_B; dsimp only; sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2]

set_option maxHeartbeats 4000000 in
theorem oB10 (h0 : ¬ t.val % 32 = 0) : (outsAt0 m c t.val t.isLt).2.2.1 = stack (qB m c t) := by
  rw [outsAt0_B m c t h0]
  dsimp only
  unfold out0_B_10
  rw [View.read_writes_eq_canon _ _ _ (fun y => by apply cover0_B_10)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2, rd0, rd1, scr0 m c t, scr1 m c t]
  funext j
  refine View.canon_apply_of_pieces (stack (qB m c t)) _ ?_ _ ?_
  · simp only [List.forall_mem_cons]
    exact ⟨stack_at (qB m c t) 15, stack_at (qB m c t) 14, stack_at (qB m c t) 13, stack_at (qB m c t) 12, stack_at (qB m c t) 11, stack_at (qB m c t) 10, stack_at (qB m c t) 9, stack_at (qB m c t) 8, stack_at (qB m c t) 7, stack_at (qB m c t) 6, stack_at (qB m c t) 5, stack_at (qB m c t) 4, stack_at (qB m c t) 3, stack_at (qB m c t) 2, stack_at (qB m c t) 1, stack_at (qB m c t) 0, fun _ h => absurd h List.not_mem_nil⟩
  · exact View.cover_of_tiledL (s := S1280x256) _ ![80, 256] (by sl_kernel_rfl) _

set_option maxHeartbeats 4000000 in
theorem oB13 (h0 : ¬ t.val % 32 = 0) : (outsAt0 m c t.val t.isLt).2.2.2.2.2.1 = stack (vB m c t) := by
  rw [outsAt0_B m c t h0]
  dsimp only
  unfold out0_B_13
  rw [View.read_writes_eq_canon _ _ _ (fun y => by apply cover0_B_13)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2, rd0, rd1, scr0 m c t, scr1 m c t]
  funext j
  refine View.canon_apply_of_pieces (stack (vB m c t)) _ ?_ _ ?_
  · simp only [List.forall_mem_cons]
    exact ⟨stack_at (vB m c t) 15, stack_at (vB m c t) 14, stack_at (vB m c t) 13, stack_at (vB m c t) 12, stack_at (vB m c t) 11, stack_at (vB m c t) 10, stack_at (vB m c t) 9, stack_at (vB m c t) 8, stack_at (vB m c t) 7, stack_at (vB m c t) 6, stack_at (vB m c t) 5, stack_at (vB m c t) 4, stack_at (vB m c t) 3, stack_at (vB m c t) 2, stack_at (vB m c t) 1, stack_at (vB m c t) 0, fun _ h => absurd h List.not_mem_nil⟩
  · exact View.cover_of_tiledL (s := S1280x256) _ ![80, 256] (by sl_kernel_rfl) _

set_option maxHeartbeats 4000000 in
theorem oB12 (h0 : ¬ t.val % 32 = 0) : ∃ ka, (outsAt0 m c t.val t.isLt).2.2.2.2.1 = planes (kB m c t ka) := by
  rw [outsAt0_B m c t h0]
  dsimp only
  unfold out0_B_12
  rw [View.read_writes_eq_canon _ _ _ (fun y => by apply cover0_B_12)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1280) z2, View.ld_unit_zero (S := S1x1280) z2, View.ld_unit_zero (S := S3840x1) z2, View.ld_unit_zero (S := S256x80) z2, rd0, rd1, scr0 m c t, scr1 m c t]
  apply Exists.intro
  funext j
  refine View.canon_apply_of_pieces _ _ ?_ _ ?_
  · simp only [List.forall_mem_cons]
    exact ⟨planes_at (kB m c t _) 15, planes_at (kB m c t _) 14, planes_at (kB m c t _) 13, planes_at (kB m c t _) 12, planes_at (kB m c t _) 11, planes_at (kB m c t _) 10, planes_at (kB m c t _) 9, planes_at (kB m c t _) 8, planes_at (kB m c t _) 7, planes_at (kB m c t _) 6, planes_at (kB m c t _) 5, planes_at (kB m c t _) 4, planes_at (kB m c t _) 3, planes_at (kB m c t _) 2, planes_at (kB m c t _) 1, planes_at (kB m c t _) 0, fun _ h => absurd h List.not_mem_nil⟩
  · exact View.cover_of_tiledL (s := S16x256x128) _ ![1, 256, 128] (by sl_kernel_rfl) _

end Cert.QkvBlk
-- ==== Proof.QkvSpec.lean ====
module

public import proofs.«01_k».proof.Proof.Chunks

/-! The query, key and value projections of a transformer block on one row: normalisation, quantisation, the linear layer
with its scale and bias per output, and the rotary embedding of queries and keys; and the five arrays they give over all
rows. The 3840 outputs are 3 groups (queries, keys, values) of 16 heads of 80. -/

@[expose] public section

noncomputable section

namespace Cert.QkvSpec

open Idealize.ShloMosaic Cert.Row

/-- The weights, as functions of their indices. -/
structure Wts where
  g : Fin 1280 → EReal
  w : Fin 3840 → Fin 1280 → EReal
  s : Fin 3840 → EReal
  b : Fin 3840 → EReal

/-- The weights an argument list holds. -/
def wts (g : FVec Ideal (M 1 1280) .f32) (w : FVec Ideal (M 3840 1280) .fp8e4m3) (s b : FVec Ideal (M 3840 1) .f32) : Wts where
  g := row g 0
  w := mat w
  s := fun o => s (ix2 o 0)
  b := fun o => b (ix2 o 0)

/-- The normalised row. -/
def nrm (p : Wts) (x : Fin 1280 → EReal) : Fin 1280 → EReal := rms x p.g

/-- Output `o` of the linear layer on the quantised row. -/
def lin (p : Wts) (x : Fin 1280 → EReal) (o : Fin 3840) : EReal :=
  (∑ k, p.w o k * cod (nrm p x) k) * scl (nrm p x) * p.s o + p.b o

/-- A head turned by its position's angles: the second half comes first, negated. -/
def rope (t c s : Fin 80 → EReal) (d : Fin 80) : EReal :=
  t d * c d + (if h : d.val < 40 then Ideal.ofBits .f32 0x00000000#32 - t ⟨40 + d.val, by omega⟩ else t ⟨d.val - 40, by omega⟩) * s d

/-- Head `h` of group `z` of the linear layer's outputs. -/
def head (p : Wts) (x : Fin 1280 → EReal) (z : Fin 3) (h : Fin 16) (d : Fin 80) : EReal :=
  lin p x ⟨1280 * z.val + 80 * h.val + d.val, by omega⟩

/-- Number of the head an output of a group belongs to, and its place in it. -/
abbrev hdOf (j : Fin 1280) : Fin 16 := ⟨j.val / 80, by omega⟩
abbrev inHd (j : Fin 1280) : Fin 80 := ⟨j.val % 80, Nat.mod_lt _ (by decide)⟩

/-! ## All rows -/

variable (p : Wts) (x : FVec Ideal (M 8192 1280) .bf16) (cs sn : FVec Ideal (M 8192 80) .f32)

def U0 : FVec Ideal (M 8192 1280) .fp8e4m3 := fun i => cod (nrm p (row x (i 0))) (i 1)
def U1 : FVec Ideal (M 1 8192) .f32 := fun i => scl (nrm p (row x (i 1)))
def U2 : FVec Ideal (M 1280 8192) .bf16 := fun i =>
  rope (head p (row x (i 1)) 0 (hdOf (i 0))) (row cs (i 1)) (row sn (i 1)) (inHd (i 0))
def U3 : FVec Ideal ⟨3, ![16, 8192, 80]⟩ .bf16 := fun i =>
  rope (head p (row x (i 1)) 1 (i 0)) (row cs (i 1)) (row sn (i 1)) (i 2)
def U4 : FVec Ideal (M 1280 8192) .bf16 := fun i => head p (row x (i 1)) 2 (hdOf (i 0)) (inHd (i 0))

end Cert.QkvSpec
-- ==== Proof.QkvPay.lean ====
module

public import proofs.«01_k».proof.Proof.QkvBlk
public import proofs.«01_k».proof.Proof.QkvSpec

/-! The values of one grid point of the q/k/v region, read position by position: each output block is the block's part of
QkvSpec. -/

@[expose] public section

noncomputable section

namespace Cert.QkvPay

open Idealize.ShloMosaic Cert.QkvKernelIdeal Cert.QkvKernelIdeal.Gen Cert.Row Cert.QkvSpec Cert.QkvBlk

variable (x0 : FVec Ideal S256x1280 .bf16) (x1 : FVec Ideal S1x1280 .f32) (x2 : FVec Ideal S3840x1280 .fp8e4m3)
  (x3 x4 : FVec Ideal S3840x1 .f32) (x5 x6 : FVec Ideal S256x80 .f32)

theorem nrm_row (i : Fin 256) : row (φ := .f32) (n := 256) (k := 1280) (k0_pay4 x0 x1) i = nrm (wts x1 x2 x3 x4) (row x0 i) :=
  rms_row reduces_S256x1280_S256 shapeCasts_S256_S256x1 broadcasts_S256x1_S256x1280 broadcasts_S1x1280_S256x1280
    (extf .f32 x0 bitsLt_bf16_f32) x1 i

theorem nrm_scale (i : Fin 256) (z : Fin 1) : k0_pay5 (F := Ideal) x0 x1 (ix2 i z) = scl (nrm (wts x1 x2 x3 x4) (row x0 i)) := by
  rw [← nrm_row]
  exact scaleV_apply _ _ (k0_pay4 x0 x1) i z

theorem nrm_codes (i : Fin 256) : row (φ := .fp8e4m3) (n := 256) (k := 1280) (k0_pay6 x0 x1) i = cod (nrm (wts x1 x2 x3 x4) (row x0 i)) := by
  rw [← nrm_row x0 x1 x2 x3 x4]
  exact codes_row _ _ (k0_pay4 x0 x1) (k0_pay5 x0 x1) i (by rw [nrm_scale x0 x1 x2 x3 x4, nrm_row x0 x1 x2 x3 x4])

theorem sc_apply (z : Fin 1) (i : Fin 256) : k0_pay7 (F := Ideal) x0 x1 (ix2 z i) = scl (nrm (wts x1 x2 x3 x4) (row x0 i)) := by
  refine Eq.trans ?_ (nrm_scale x0 x1 x2 x3 x4 i 0)
  unfold k0_pay7
  rw [shapeCast_self]
  generalize k0_pay5 (F := Ideal) x0 x1 = Y
  pointwise []

/-- The rows of a head's weights. -/
theorem wld_apply (z : Fin 3) (n : Fin 16) (r : Fin 640) (k : Fin 1280) :
    View.ld (Val := Elt Ideal) (e' := .fp8e4m3) x2 (Rect.unit ![1280 * z.val + 640 * (n.val / 8), 0] S640x1280.size (inC z n)) (ix2 r k)
      = x2 (ix2 ⟨1280 * z.val + 640 * (n.val / 8) + r.val, by omega⟩ k) := by
  refine congrArg x2 (funext fun a => Fin.ext ?_)
  match a with
  | ⟨0, _⟩ => show 1280 * z.val + 640 * (n.val / 8) + 1 * r.val = 1280 * z.val + 640 * (n.val / 8) + r.val; omega
  | ⟨1, _⟩ => show 0 + 1 * k.val = k.val; omega

theorem sld_apply (s : FVec Ideal S3840x128 .f32) (z : Fin 3) (n : Fin 16) (r : Fin 80) (q : Fin 128) :
    View.ld (Val := Elt Ideal) (e' := .f32) s (Rect.unit ![1280 * z.val + 80 * n.val, 0] S80x128.size (inS z n)) (ix2 r q)
      = s (ix2 ⟨1280 * z.val + 80 * n.val + r.val, by omega⟩ q) := by
  refine congrArg s (funext fun a => Fin.ext ?_)
  match a with
  | ⟨0, _⟩ => show 1280 * z.val + 80 * n.val + 1 * r.val = 1280 * z.val + 80 * n.val + r.val; omega
  | ⟨1, _⟩ => show 0 + 1 * q.val = q.val; omega

theorem lane2 (v : FVec Ideal S3840x1 .f32) (o : Fin 3840) (q : Fin 128) : k0_pay2 v (ix2 o q) = v (ix2 o 0) := by
  unfold k0_pay2
  rw [shapeCast_self, shapeCast_self]
  exact col_apply _ _ o q

theorem lane3 (v : FVec Ideal S3840x1 .f32) (o : Fin 3840) (q : Fin 128) : k0_pay3 v (ix2 o q) = v (ix2 o 0) := lane2 v o q

theorem lin80_apply (sc : FVec Ideal S1x256 .f32) (a : FVec Ideal S80x256 .f32) (ws wb : FVec Ideal S80x128 .f32) (d : Fin 80)
    (i : Fin 256) (s b : EReal) (hs : ∀ q, ws (ix2 d q) = s) (hb : ∀ q, wb (ix2 d q) = b) :
    lin80 sc a ws wb (ix2 d i) = a (ix2 d i) * sc (ix2 0 i) * s + b := by
  unfold lin80
  by_cases hi : i.val < 128
  · rw [← hs ⟨i.val, hi⟩, ← hb ⟨i.val, hi⟩]
    pointwise []
    exact dif_pos hi
  · rw [← hs ⟨i.val - 128, by omega⟩, ← hb ⟨i.val - 128, by omega⟩]
    pointwise []
    refine (dif_neg hi).trans ?_
    rw [show (⟨128 + (i.val - 128), by omega⟩ : Fin 256) = i from Fin.ext (by show 128 + (i.val - 128) = i.val; omega)]

theorem mm_apply (z : Fin 3) (n : Fin 16) (d : Fin 80) (i : Fin 256) :
    extractStridedSlice S80x256 ![80 * (n.val % 8), 0] (k0_pay17 (k0_pay6 (F := Ideal) x0 x1)
      (View.ld (Val := Elt Ideal) (e' := .fp8e4m3) x2 (Rect.unit ![1280 * z.val + 640 * (n.val / 8), 0] S640x1280.size (inC z n)))) (inH n) (ix2 d i)
      = ∑ k, x2 (ix2 ⟨1280 * z.val + 80 * n.val + d.val, by omega⟩ k) * cod (nrm (wts x1 x2 x3 x4) (row x0 i)) k := by
  refine (ValueIdx.slice2_axis0_apply (80 * (n.val % 8)) _ (inH n) d i ⟨80 * (n.val % 8) + d.val, by omega⟩ rfl).trans ?_
  unfold k0_pay17
  refine (Ideal.matmul_transposedRhs_apply none _ (k0_pay6 (F := Ideal) x0 x1) _ _ i).trans ?_
  rw [show (constant (F := Ideal) S640x256 .f32 0x00000000#32) (ValueIdx.ix2 ⟨80 * (n.val % 8) + d.val, by omega⟩ i) = 0 by pointwise [], zero_add]
  refine Finset.sum_congr rfl fun k _ => ?_
  rw [← nrm_codes x0 x1 x2 x3 x4]
  refine congrArg (fun w : EReal => w * _) ((wld_apply x2 z n _ k).trans (congrArg (fun o => x2 (ix2 o k)) (Fin.ext ?_)))
  show 1280 * z.val + 640 * (n.val / 8) + (80 * (n.val % 8) + d.val) = 1280 * z.val + 80 * n.val + d.val
  omega

/-- A head's outputs. -/
theorem hd_apply (z : Fin 3) (n : Fin 16) (d : Fin 80) (i : Fin 256) :
    hd (F := Ideal) (k0_pay7 x0 x1) (k0_pay6 x0 x1) x2 (k0_pay2 x3) (k0_pay3 x4) z n (ix2 d i) = head (wts x1 x2 x3 x4) (row x0 i) z n d := by
  unfold hd
  refine (lin80_apply _ _ _ _ d i _ _ (fun q => (sld_apply _ z n d q).trans (lane2 x3 _ q)) (fun q => (sld_apply _ z n d q).trans (lane3 x4 _ q))).trans ?_
  rw [mm_apply x0 x1 x2 x3 x4, sc_apply x0 x1 x2 x3 x4]
  rfl

theorem rope80_apply (y : FVec Ideal S80x256 .f32) (t : Fin 80 → EReal) (i : Fin 256) (ht : ∀ d, y (ix2 d i) = t d) (d : Fin 80) :
    rope80 (k0_pay8 x5) (k0_pay9 x6) y (ix2 d i) = rope t (row x5 i) (row x6 i) d := by
  unfold rope rope80 k0_pay8 k0_pay9
  by_cases hd : d.val < 40
  · rw [dif_pos hd, ← ht, ← ht]
    pointwise []
    exact congrArg (fun w : EReal => y (ix2 d i) * x5 (ix2 i d) + w * x6 (ix2 i d)) (dif_pos hd)
  · rw [dif_neg hd, ← ht, ← ht]
    pointwise []
    exact congrArg (fun w : EReal => y (ix2 d i) * x5 (ix2 i d) + w * x6 (ix2 i d)) (dif_neg hd)

/-- Of a turned key head the first 80 columns. -/
theorem key_apply (y : FVec Ideal S80x256 .bf16) (ka : FVec Ideal S48x256 .bf16) (i : Fin 256) (d : Fin 80) :
    key y ka (ix3 0 i ⟨d.val, by omega⟩) = y (ix2 d i) := by
  unfold key
  pointwise []

end Cert.QkvPay
-- ==== Proof.QkvArr.lean ====
module

public import proofs.«01_k».proof.Proof.QkvPay
public import Idealize.ShloMosaic.Lib.Pipeline.ValueKit.Geometry

/-! The result arrays of the q/k/v region and of the host's cut of the keys to their 80 columns: each is the array of
QkvSpec over the arguments. Point `t` of the grid does positions `256 t` to `256 t + 255`. -/

@[expose] public section

noncomputable section

namespace Cert.QkvArr

open Idealize.ShloMosaic Idealize.ShloMosaic.TcCoe Idealize.SL.Sem Cert.QkvKernelIdeal Cert.QkvKernelIdeal.Gen Cert.Row Cert.QkvSpec Cert.QkvBlk
  Cert.QkvPay

variable (m : (ℓ : Loc nD τ sig) → Buf (Elt Ideal) ℓ) (c : Dev nD)

/-- The weights device `c`'s arguments hold. -/
abbrev wOf : Wts := wts (V m c main_arg1) (V m c main_arg2) (V m c main_arg3) (V m c main_arg4)

/-- The block indices: blocks of rows of the activations and the angles, blocks of columns or rows of the results, and
every weight whole. -/
theorem index0 : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, _)
theorem index0o : ∀ t : Fin cfg0.N, win0_8.index t = ![t.val, 0] ∧ win0_9.index t = ![0, t.val] ∧ win0_10.index t = ![0, t.val] ∧ win0_12.index t = ![0, t.val, 0] ∧ win0_13.index t = ![0, t.val] :=
  (by decide +kernel : ∀ t : Fin grid0.N, _)

/-- The position of row `i` of block `t`. -/
def rw_ (t : Fin cfg0.N) (i : Fin 256) : Fin 8192 := ⟨256 * t.val + i.val, by have : t.val < 32 := t.isLt; omega⟩

theorem in0 (t : Fin cfg0.N) (i : Fin 256) :
    row (φ := .bf16) (n := 256) (k := 1280) (iblk m c 0 t) i = row (φ := .bf16) (n := 8192) (k := 1280) (V m c main_arg0) (rw_ t i) := by
  have h := index0 t
  funext k
  unfold row iblk
  refine congrArg (V m c main_arg0) ?_
  unfold rw_
  blk_ext [h]

theorem in5 (t : Fin cfg0.N) (i : Fin 256) :
    row (φ := .f32) (n := 256) (k := 80) (iblk m c 5 t) i = row (φ := .f32) (n := 8192) (k := 80) (V m c main_arg5) (rw_ t i) := by
  have h := index0 t
  funext k
  unfold row iblk
  refine congrArg (V m c main_arg5) ?_
  unfold rw_
  blk_ext [h]

theorem in6 (t : Fin cfg0.N) (i : Fin 256) :
    row (φ := .f32) (n := 256) (k := 80) (iblk m c 6 t) i = row (φ := .f32) (n := 8192) (k := 80) (V m c main_arg6) (rw_ t i) := by
  have h := index0 t
  funext k
  unfold row iblk
  refine congrArg (V m c main_arg6) ?_
  unfold rw_
  blk_ext [h]

/-! A weight's block is the weight. -/

theorem in1 (t : Fin cfg0.N) : iblk m c 1 t = V m c main_arg1 := by
  have h := index0 t
  funext x
  unfold iblk
  refine congrArg (V m c main_arg1) ?_
  blk_ext [h]
theorem in2 (t : Fin cfg0.N) : iblk m c 2 t = V m c main_arg2 := by
  have h := index0 t
  funext x
  unfold iblk
  refine congrArg (V m c main_arg2) ?_
  blk_ext [h]
theorem in3 (t : Fin cfg0.N) : iblk m c 3 t = V m c main_arg3 := by
  have h := index0 t
  funext x
  unfold iblk
  refine congrArg (V m c main_arg3) ?_
  blk_ext [h]
theorem in4 (t : Fin cfg0.N) : iblk m c 4 t = V m c main_arg4 := by
  have h := index0 t
  funext x
  unfold iblk
  refine congrArg (V m c main_arg4) ?_
  blk_ext [h]

theorem w_in (t : Fin cfg0.N) : wts (iblk m c 1 t) (iblk m c 2 t) (iblk m c 3 t) (iblk m c 4 t) = wOf m c := by
  rw [in1, in2, in3, in4]

/-! ## Block values -/

theorem o8 (t : Fin cfg0.N) : (outsAt0 m c t.val t.isLt).1 = k0_pay6 (iblk m c 0 t) (iblk m c 1 t) := by
  by_cases h : t.val % 32 = 0
  · exact oA8 m c t h
  · exact oB8 m c t h
theorem o9 (t : Fin cfg0.N) : (outsAt0 m c t.val t.isLt).2.1 = k0_pay7 (iblk m c 0 t) (iblk m c 1 t) := by
  by_cases h : t.val % 32 = 0
  · exact oA9 m c t h
  · exact oB9 m c t h
theorem o10 (t : Fin cfg0.N) : (outsAt0 m c t.val t.isLt).2.2.1 = stack (qB m c t) := by
  by_cases h : t.val % 32 = 0
  · exact oA10 m c t h
  · exact oB10 m c t h
theorem o12 (t : Fin cfg0.N) : ∃ ka, (outsAt0 m c t.val t.isLt).2.2.2.2.1 = planes (kB m c t ka) := by
  by_cases h : t.val % 32 = 0
  · exact oA12 m c t h
  · exact oB12 m c t h
theorem o13 (t : Fin cfg0.N) : (outsAt0 m c t.val t.isLt).2.2.2.2.2.1 = stack (vB m c t) := by
  by_cases h : t.val % 32 = 0
  · exact oA13 m c t h
  · exact oB13 m c t h

theorem hd_at (t : Fin cfg0.N) (z : Fin 3) (n : Fin 16) (d : Fin 80) (i : Fin 256) :
    hdB m c t z n (ix2 d i) = head (wOf m c) (row (φ := .bf16) (n := 8192) (k := 1280) (V m c main_arg0) (rw_ t i)) z n d := by
  refine (hd_apply (iblk m c 0 t) (iblk m c 1 t) (iblk m c 2 t) (iblk m c 3 t) (iblk m c 4 t) z n d i).trans ?_
  rw [w_in, in0]

theorem ro_at (t : Fin cfg0.N) (z : Fin 3) (n : Fin 16) (d : Fin 80) (i : Fin 256) :
    roB m c t z n (ix2 d i) = rope (head (wOf m c) (row (φ := .bf16) (n := 8192) (k := 1280) (V m c main_arg0) (rw_ t i)) z n) (row (φ := .f32) (n := 8192) (k := 80) (V m c main_arg5) (rw_ t i))
      (row (φ := .f32) (n := 8192) (k := 80) (V m c main_arg6) (rw_ t i)) d := by
  refine (rope80_apply (iblk m c 5 t) (iblk m c 6 t) (hdB m c t z n) _ i (fun d => hd_at m c t z n d i) d).trans ?_
  rw [in5, in6]

/-! ## The arrays -/

theorem final8 : (dats m 0 c).arrAt 8 cfg0.N = U0 (wOf m c) (V m c main_arg0) := by
  refine (dats m 0 c).arrAt_eq_of_covers 8 (U0 (wOf m c) (V m c main_arg0)) (by decide +kernel) fun t hf y => ?_
  blk_simp
  rw [after0_8, o8]
  obtain ⟨i, j, rfl⟩ : ∃ (i : Fin 256) (j : Fin 1280), y = ix2 i j := ⟨y 0, y 1, ValueIdx.eq_ix2 y⟩
  have h := index0o t
  have e0 : (win0_8.blk t).view.emb (ix2 i j) 0 = rw_ t i := Fin.ext (by show _ = 256 * t.val + i.val; blk_simp [h]; omega)
  have e1 : (win0_8.blk t).view.emb (ix2 i j) 1 = j := Fin.ext (by blk_simp [h])
  refine (congrFun (nrm_codes (iblk m c 0 t) (iblk m c 1 t) (iblk m c 2 t) (iblk m c 3 t) (iblk m c 4 t) i) j).trans ?_
  rw [w_in, in0]
  unfold U0
  rw [e0, e1]

theorem final9 : (dats m 0 c).arrAt 9 cfg0.N = U1 (wOf m c) (V m c main_arg0) := by
  refine (dats m 0 c).arrAt_eq_of_covers 9 (U1 (wOf m c) (V m c main_arg0)) (by decide +kernel) fun t hf y => ?_
  blk_simp
  rw [after0_9, o9]
  obtain ⟨z, i, rfl⟩ : ∃ (z : Fin 1) (i : Fin 256), y = ix2 z i := ⟨y 0, y 1, ValueIdx.eq_ix2 y⟩
  have h := index0o t
  have e1 : (win0_9.blk t).view.emb (ix2 z i) 1 = rw_ t i := Fin.ext (by show _ = 256 * t.val + i.val; blk_simp [h]; omega)
  refine (sc_apply (iblk m c 0 t) (iblk m c 1 t) (iblk m c 2 t) (iblk m c 3 t) (iblk m c 4 t) z i).trans ?_
  rw [w_in, in0]
  unfold U1
  rw [e1]

theorem final10 : (dats m 0 c).arrAt 10 cfg0.N = U2 (wOf m c) (V m c main_arg0) (V m c main_arg5) (V m c main_arg6) := by
  refine (dats m 0 c).arrAt_eq_of_covers 10 (U2 (wOf m c) (V m c main_arg0) (V m c main_arg5) (V m c main_arg6)) (by decide +kernel) fun t hf y => ?_
  blk_simp
  rw [after0_10, o10]
  obtain ⟨j, i, rfl⟩ : ∃ (j : Fin 1280) (i : Fin 256), y = ix2 j i := ⟨y 0, y 1, ValueIdx.eq_ix2 y⟩
  have h := index0o t
  have e0 : (win0_10.blk t).view.emb (ix2 j i) 0 = j := Fin.ext (by blk_simp [h])
  have e1 : (win0_10.blk t).view.emb (ix2 j i) 1 = rw_ t i := Fin.ext (by show _ = 256 * t.val + i.val; blk_simp [h]; omega)
  refine (ro_at m c t 0 (hdOf j) (inHd j) i).trans ?_
  unfold U2
  rw [e0, e1]

theorem final13 : (dats m 0 c).arrAt 13 cfg0.N = U4 (wOf m c) (V m c main_arg0) := by
  refine (dats m 0 c).arrAt_eq_of_covers 13 (U4 (wOf m c) (V m c main_arg0)) (by decide +kernel) fun t hf y => ?_
  blk_simp
  rw [after0_13, o13]
  obtain ⟨j, i, rfl⟩ : ∃ (j : Fin 1280) (i : Fin 256), y = ix2 j i := ⟨y 0, y 1, ValueIdx.eq_ix2 y⟩
  have h := index0o t
  have e0 : (win0_13.blk t).view.emb (ix2 j i) 0 = j := Fin.ext (by blk_simp [h])
  have e1 : (win0_13.blk t).view.emb (ix2 j i) 1 = rw_ t i := Fin.ext (by show _ = 256 * t.val + i.val; blk_simp [h]; omega)
  refine (hd_at m c t 2 (hdOf j) (inHd j) i).trans ?_
  unfold U4
  rw [e0, e1]

/-! The keys, with all 128 columns: what the points leave, side by side. -/

/-- The point that does position `i`. -/
def ptOf (i : Fin 8192) : Fin cfg0.N := ⟨i.val / 256, by show i.val / 256 < 32; omega⟩

/-- The block of keys point `t` leaves. -/
def kblk (t : Fin cfg0.N) : Vec Ideal S16x256x128 .bf16 := (outsAt0 m c t.val t.isLt).2.2.2.2.1

/-- The place of position `i` in its block. -/
def posIn (i : Fin 8192) : Fin 256 := ⟨i.val % 256, Nat.mod_lt _ (by decide)⟩

def keyAt (n : Fin 16) (i : Fin 8192) (j : Fin 128) : EReal := kblk m c (ptOf i) (ix3 n (posIn i) j)

def keys : Vec Ideal S16x8192x128 .bf16 := fun y => keyAt m c (y 0) (y 1) (y 2)

theorem keyAt_rw (t : Fin cfg0.N) (n : Fin 16) (i : Fin 256) (j : Fin 128) : keyAt m c n (rw_ t i) j = kblk m c t (ix3 n i j) := by
  have ep : ptOf (rw_ t i) = t := Fin.ext (by show (256 * t.val + i.val) / 256 = t.val; have := i.isLt; omega)
  have er : posIn (rw_ t i) = i := Fin.ext (by show (256 * t.val + i.val) % 256 = i.val; have := i.isLt; omega)
  unfold keyAt
  rw [ep, er]

theorem final12 : (dats m 0 c).arrAt 12 cfg0.N = keys m c := by
  refine (dats m 0 c).arrAt_eq_of_covers 12 (keys m c) (by decide +kernel) fun t hf y => ?_
  blk_simp
  rw [after0_12]
  obtain ⟨n, i, j, rfl⟩ : ∃ (n : Fin 16) (i : Fin 256) (j : Fin 128), y = ix3 n i j := ⟨y 0, y 1, y 2, ValueIdx.eq_ix3 y⟩
  have h := index0o t
  have e0 : (win0_12.blk t).view.emb (ix3 n i j) 0 = n := Fin.ext (by blk_simp [h])
  have e1 : (win0_12.blk t).view.emb (ix3 n i j) 1 = rw_ t i := Fin.ext (by show _ = 256 * t.val + i.val; blk_simp [h]; omega)
  have e2 : (win0_12.blk t).view.emb (ix3 n i j) 2 = j := Fin.ext (by blk_simp [h])
  exact ((congr (congrArg₂ (keyAt m c) e0 e1) e2).trans (keyAt_rw m c t n i j)).symm

/-- Their first 80 columns. -/
theorem keys_cut : extractStridedSlice S16x8192x80 ![0, 0, 0] (keys m c) slices_S16x8192x128_S16x8192x80_0_0_0
    = U3 (wOf m c) (V m c main_arg0) (V m c main_arg5) (V m c main_arg6) := by
  funext y
  obtain ⟨n, i, d, rfl⟩ : ∃ (n : Fin 16) (i : Fin 8192) (d : Fin 80), y = ix3 n i d := ⟨y 0, y 1, y 2, ValueIdx.eq_ix3 y⟩
  have e : extractStridedSlice S16x8192x80 ![0, 0, 0] (keys m c) slices_S16x8192x128_S16x8192x80_0_0_0 (ix3 n i d)
      = keys m c (ix3 n i ⟨d.val, by omega⟩) := by
    generalize keys m c = Y
    pointwise []
  have ei : rw_ (ptOf i) (posIn i) = i := Fin.ext (by
    show 256 * (i.val / 256) + i.val % 256 = i.val; omega)
  obtain ⟨ka, hk⟩ := o12 m c (ptOf i)
  refine e.trans ?_
  show kblk m c (ptOf i) (ix3 n (posIn i) ⟨d.val, by omega⟩) = _
  rw [show kblk m c (ptOf i) = planes (kB m c (ptOf i) ka) from hk]
  refine (key_apply (roB m c (ptOf i) 1 n) ka (posIn i) d).trans ?_
  rw [ro_at, ei]
  rfl

/-! ## The run -/

variable (ρ : Dev nD → PrngReg)

theorem tail_v1 : Pipeline.afterTail₀ cfgs (dats m) 0 (V0 m) [hostOps1] c main_v1
    = extractStridedSlice S16x8192x80 ![0, 0, 0] ((dats m 0 c).arrAt 12 cfg0.N) slices_S16x8192x128_S16x8192x80_0_0_0 := by
  unfold Pipeline.afterTail₀
  simp (disch := decide) only [List.flatten_cons, List.flatten_nil, List.append_nil, StableHlo.after_cons, StableHlo.after_nil, StableHlo.unary_result']
  exact congrArg (fun X => extractStridedSlice S16x8192x80 ![0, 0, 0] X slices_S16x8192x128_S16x8192x80_0_0_0)
    (Pipeline.withArrays_arr spec0 launch0.win.arr_inj c (V0 m c) (fun w => (dats m 0 c).arrAt w cfg0.N) 12)

/-- The kernel runs, its results are the arrays of QkvSpec, and its arguments are unchanged. -/
theorem run : θ_run defs (onTc (τ := τ) (main (F := Ideal))) ⟨m, fun _ => 0, ρ⟩ fun r => ∀ c : Dev nD,
      r.2.mem ((c : Thread nD τ).loc main_v0_0) = U0 (wOf m c) (V m c main_arg0)
      ∧ r.2.mem ((c : Thread nD τ).loc main_v0_1) = U1 (wOf m c) (V m c main_arg0)
      ∧ r.2.mem ((c : Thread nD τ).loc main_v0_2) = U2 (wOf m c) (V m c main_arg0) (V m c main_arg5) (V m c main_arg6)
      ∧ r.2.mem ((c : Thread nD τ).loc main_v1) = U3 (wOf m c) (V m c main_arg0) (V m c main_arg5) (V m c main_arg6)
      ∧ r.2.mem ((c : Thread nD τ).loc main_v0_5) = U4 (wOf m c) (V m c main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h c).1 8).trans (final8 m c), ((h c).1 9).trans (final9 m c), ((h c).1 10).trans (final10 m c),
      ((h c).2 main_v1 (by decide)).trans ((tail_v1 m c).trans ((congrArg (fun X => extractStridedSlice S16x8192x80 ![0, 0, 0] X
        slices_S16x8192x128_S16x8192x80_0_0_0) (final12 m c)).trans (keys_cut m c))),
      ((h c).1 13).trans (final13 m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _), ((h c).1 5).trans ((dats m 0 c).arrAt_in 5 rfl _),
      ((h c).1 6).trans ((dats m 0 c).arrAt_in 6 rfl _), ((h c).1 7).trans ((dats m 0 c).arrAt_in 7 rfl _)⟩) (run_main m ρ)

end Cert.QkvArr
-- ==== Proof.QkvRefRun.lean ====
module

public import proofs.«01_k».proof.Proof.Gen.QkvReferenceIdeal.Frame
public import Idealize.ShloMosaic.Lib.Pipeline.Value

/-! The second reference's run: its five result arrays as functions of the argument arrays. Its one grid point takes
every array whole, so what the body leaves in a block is what the array ends holding. -/

@[expose] public section

noncomputable section

namespace Cert.QkvRefRun

open Cert.QkvReferenceIdeal Cert.QkvReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_4) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S8192x1280.Idx) : ((cfg0.win 0).blk t).view.emb j = j := by
  obtain ⟨e0, e1⟩ := idx_zero0 t
  funext a; apply Fin.ext
  match a with
  | ⟨0, _⟩ => show win0_0.index t (0 : Fin 2) * 8192 + 1 * (j 0).val = (j 0).val; omega
  | ⟨1, _⟩ => show win0_0.index t (1 : Fin 2) * 1280 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x1280.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 1280 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3840x1280.Idx) : ((cfg0.win 2).blk t).view.emb j = j := by
  obtain ⟨e0, e1⟩ := idx_zero2 t
  funext a; apply Fin.ext
  match a with
  | ⟨0, _⟩ => show win0_2.index t (0 : Fin 2) * 3840 + 1 * (j 0).val = (j 0).val; omega
  | ⟨1, _⟩ => show win0_2.index t (1 : Fin 2) * 1280 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3840x1.Idx) : ((cfg0.win 3).blk t).view.emb j = j := by
  obtain ⟨e0, e1⟩ := idx_zero3 t
  funext a; apply Fin.ext
  match a with
  | ⟨0, _⟩ => show win0_3.index t (0 : Fin 2) * 3840 + 1 * (j 0).val = (j 0).val; omega
  | ⟨1, _⟩ => show win0_3.index t (1 : Fin 2) * 1 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3840x1.Idx) : ((cfg0.win 4).blk t).view.emb j = j := by
  obtain ⟨e0, e1⟩ := idx_zero4 t
  funext a; apply Fin.ext
  match a with
  | ⟨0, _⟩ => show win0_4.index t (0 : Fin 2) * 3840 + 1 * (j 0).val = (j 0).val; omega
  | ⟨1, _⟩ => show win0_4.index t (1 : Fin 2) * 1 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S8192x80.Idx) : ((cfg0.win 5).blk t).view.emb j = j := by
  obtain ⟨e0, e1⟩ := idx_zero5 t
  funext a; apply Fin.ext
  match a with
  | ⟨0, _⟩ => show win0_5.index t (0 : Fin 2) * 8192 + 1 * (j 0).val = (j 0).val; omega
  | ⟨1, _⟩ => show win0_5.index t (1 : Fin 2) * 80 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S8192x80.Idx) : ((cfg0.win 6).blk t).view.emb j = j := by
  obtain ⟨e0, e1⟩ := idx_zero6 t
  funext a; apply Fin.ext
  match a with
  | ⟨0, _⟩ => show win0_6.index t (0 : Fin 2) * 8192 + 1 * (j 0).val = (j 0).val; omega
  | ⟨1, _⟩ => show win0_6.index t (1 : Fin 2) * 80 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S8192x1280.Idx) : ((cfg0.win 7).blk t).view.emb j = j := by
  obtain ⟨e0, e1⟩ := idx_zero7 t
  funext a; apply Fin.ext
  match a with
  | ⟨0, _⟩ => show win0_7.index t (0 : Fin 2) * 8192 + 1 * (j 0).val = (j 0).val; omega
  | ⟨1, _⟩ => show win0_7.index t (1 : Fin 2) * 1280 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1x8192.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 8192 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S1280x8192.Idx) : ((cfg0.win 9).blk t).view.emb j = j := by
  obtain ⟨e0, e1⟩ := idx_zero9 t
  funext a; apply Fin.ext
  match a with
  | ⟨0, _⟩ => show win0_9.index t (0 : Fin 2) * 1280 + 1 * (j 0).val = (j 0).val; omega
  | ⟨1, _⟩ => show win0_9.index t (1 : Fin 2) * 8192 + 1 * (j 1).val = (j 1).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S16x8192x80.Idx) : ((cfg0.win 10).blk t).view.emb j = j := by
  obtain ⟨e0, e1, e2⟩ := idx_zero10 t
  funext a; apply Fin.ext
  match a with
  | ⟨0, _⟩ => show win0_10.index t (0 : Fin 3) * 16 + 1 * (j 0).val = (j 0).val; omega
  | ⟨1, _⟩ => show win0_10.index t (1 : Fin 3) * 8192 + 1 * (j 1).val = (j 1).val; omega
  | ⟨2, _⟩ => show win0_10.index t (2 : Fin 3) * 80 + 1 * (j 2).val = (j 2).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S1280x8192.Idx) : ((cfg0.win 11).blk t).view.emb j = j := by
  obtain ⟨e0, e1⟩ := idx_zero11 t
  funext a; apply Fin.ext
  match a with
  | ⟨0, _⟩ => show win0_11.index t (0 : Fin 2) * 1280 + 1 * (j 0).val = (j 0).val; omega
  | ⟨1, _⟩ => show win0_11.index t (1 : Fin 2) * 8192 + 1 * (j 1).val = (j 1).val; omega

/-! ### Output window 7: the array after the run -/

/-- What the window's array ends holding: `out0_7` applied to the argument arrays in place of the input blocks (a value that the
    frame states apart, `kK_payN a…`, keeps its loads inside its own definition). -/
abbrev G7 (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : Vec F S8192x1280 .fp8e4m3 :=
  k0_pay3 a0 a1

/-- A load of the whole of a block reads the block, and the one store through the whole rectangle leaves its payload. -/
theorem out7_eq (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : out0_7 (F := F) a0 a1 a2 a3 a4 a5 a6 = G7 a0 a1 a2 a3 a4 a5 a6 := by
  unfold out0_7
  rw [View.canon_unit_zero hz7, View.ld_unit_zero (S := S8192x1280) hz0 _ a0, View.ld_unit_zero (S := S1x1280) hz1 _ a1]

/-- Cutting the point's block out of `X` and reading `X` through the block's view give the same. -/
theorem cut7_eq (t : Fin cfg0.N) (X : Vec F S8192x1280 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S8192x1280.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : Vec F S1x8192 .f32 :=
  k0_pay7 (k0_pay2 a0 a1)

/-- A load of the whole of a block reads the block, and the one store through the whole rectangle leaves its payload. -/
theorem out8_eq (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : out0_8 (F := F) a0 a1 a2 a3 a4 a5 a6 = G8 a0 a1 a2 a3 a4 a5 a6 := by
  unfold out0_8
  rw [View.canon_unit_zero hz8, View.ld_unit_zero (S := S8192x1280) hz0 _ a0, View.ld_unit_zero (S := S1x1280) hz1 _ a1]

/-- Cutting the point's block out of `X` and reading `X` through the block's view give the same. -/
theorem cut8_eq (t : Fin cfg0.N) (X : Vec F S1x8192 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S1x8192.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : Vec F S1280x8192 .bf16 :=
  k0_pay8 (k0_pay11 a0 a1 a2 a3 a4 a5 a6) a4 a5 a6

/-- A load of the whole of a block reads the block, and the one store through the whole rectangle leaves its payload. -/
theorem out9_eq (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : out0_9 (F := F) a0 a1 a2 a3 a4 a5 a6 = G9 a0 a1 a2 a3 a4 a5 a6 := by
  unfold out0_9
  rw [View.canon_unit_zero hz9, View.ld_unit_zero (S := S3840x1) hz4 _ a4, View.ld_unit_zero (S := S8192x80) hz5 _ a5, View.ld_unit_zero (S := S8192x80) hz6 _ a6]

/-- Cutting the point's block out of `X` and reading `X` through the block's view give the same. -/
theorem cut9_eq (t : Fin cfg0.N) (X : Vec F S1280x8192 .bf16) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S1280x8192.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ### Output window 10: the array after the run -/

/-- What the window's array ends holding: `out0_10` applied to the argument arrays in place of the input blocks (a value that the
    frame states apart, `kK_payN a…`, keeps its loads inside its own definition). -/
abbrev G10 (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : Vec F S16x8192x80 .bf16 :=
  k0_pay9 (k0_pay11 a0 a1 a2 a3 a4 a5 a6) a4 a5 a6

/-- A load of the whole of a block reads the block, and the one store through the whole rectangle leaves its payload. -/
theorem out10_eq (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : out0_10 (F := F) a0 a1 a2 a3 a4 a5 a6 = G10 a0 a1 a2 a3 a4 a5 a6 := by
  unfold out0_10
  rw [View.canon_unit_zero hz10, View.ld_unit_zero (S := S3840x1) hz4 _ a4, View.ld_unit_zero (S := S8192x80) hz5 _ a5, View.ld_unit_zero (S := S8192x80) hz6 _ a6]

/-- Cutting the point's block out of `X` and reading `X` through the block's view give the same. -/
theorem cut10_eq (t : Fin cfg0.N) (X : Vec F S16x8192x80 .bf16) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

/-- Every index of the array is in the point's block. -/
theorem covered10 (i : S16x8192x80.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 10 (G10 (V m c main_arg0) (V m c main_arg1) (V m c main_arg2) (V m c main_arg3) (V m c main_arg4) (V m c main_arg5) (V m c main_arg6)) (fun t _ => flushed10_eq m c t) covered10).trans (by rw [V_main_arg0, V_main_arg1, V_main_arg2, V_main_arg3, V_main_arg4, V_main_arg5, V_main_arg6])

/-! ### Output window 11: the array after the run -/

/-- What the window's array ends holding: `out0_11` applied to the argument arrays in place of the input blocks (a value that the
    frame states apart, `kK_payN a…`, keeps its loads inside its own definition). -/
abbrev G11 (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : Vec F S1280x8192 .bf16 :=
  k0_pay10 (k0_pay11 a0 a1 a2 a3 a4 a5 a6) a4

/-- A load of the whole of a block reads the block, and the one store through the whole rectangle leaves its payload. -/
theorem out11_eq (a0 : Vec F S8192x1280 .bf16) (a1 : Vec F S1x1280 .f32) (a2 : Vec F S3840x1280 .fp8e4m3) (a3 : Vec F S3840x1 .f32) (a4 : Vec F S3840x1 .f32) (a5 : Vec F S8192x80 .f32) (a6 : Vec F S8192x80 .f32) : out0_11 (F := F) a0 a1 a2 a3 a4 a5 a6 = G11 a0 a1 a2 a3 a4 a5 a6 := by
  unfold out0_11
  rw [View.canon_unit_zero hz11, View.ld_unit_zero (S := S3840x1) hz4 _ a4]

/-- Cutting the point's block out of `X` and reading `X` through the block's view give the same. -/
theorem cut11_eq (t : Fin cfg0.N) (X : Vec F S1280x8192 .bf16) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6)) := by
  show (cfg0.win 11).cut (grid0.coords t) ((dats m 0 c).after 11 t) = _
  rw [after0_11, out11_eq, iblk0_eq, iblk1_eq, iblk2_eq, iblk3_eq, iblk4_eq, iblk5_eq, iblk6_eq]
  exact cut11_eq t _

/-- Every index of the array is in the point's block. -/
theorem covered11 (i : S1280x8192.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 11 (G11 (V m c main_arg0) (V m c main_arg1) (V m c main_arg2) (V m c main_arg3) (V m c main_arg4) (V m c main_arg5) (V m c main_arg6)) (fun t _ => flushed11_eq m c t) covered11).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.QkvRefRun
-- ==== Proof.QkvRefPay.lean ====
module

public import proofs.«01_k».proof.Proof.Gen.QkvReferenceIdeal.Skeleton
public import proofs.«01_k».proof.Proof.QkvSpec

/-! The pure values of the second reference, read at an index. -/

@[expose] public section

noncomputable section

namespace Cert.QkvRefPay

open Idealize.ShloMosaic Cert.QkvReferenceIdeal Cert.QkvReferenceIdeal.Gen Cert.Row Cert.QkvSpec

variable (x0 : FVec Ideal S8192x1280 .bf16) (x1 : FVec Ideal S1x1280 .f32) (x2 : FVec Ideal S3840x1280 .fp8e4m3)
  (x3 x4 : FVec Ideal S3840x1 .f32) (x5 x6 : FVec Ideal S8192x80 .f32)

theorem nrm_row (i : Fin 8192) : row (φ := .f32) (n := 8192) (k := 1280) (k0_pay1 x0 x1) i = nrm (wts x1 x2 x3 x4) (row x0 i) := by
  refine (rms_row reduces_S8192x1280_S8192 shapeCasts_S8192_S8192x1 broadcasts_S8192x1_S8192x1280
    broadcasts_S1x1280_S8192x1280 (extf .f32 x0 bitsLt_bf16_f32)
    (shapeCast S1x1280 (shapeCast S1280 x1 shapeCasts_S1x1280_S1280) shapeCasts_S1280_S1x1280) i).trans ?_
  rw [shapeCast_shapeCast]
  rfl

theorem nrm_scale (i : Fin 8192) (z : Fin 1) : k0_pay2 (F := Ideal) x0 x1 (ix2 i z) = scl (nrm (wts x1 x2 x3 x4) (row x0 i)) := by
  rw [← nrm_row]
  exact scaleV_apply _ _ (k0_pay1 x0 x1) i z

theorem nrm_codes (i : Fin 8192) : row (φ := .fp8e4m3) (n := 8192) (k := 1280) (k0_pay3 x0 x1) i = cod (nrm (wts x1 x2 x3 x4) (row x0 i)) := by
  rw [← nrm_row x0 x1 x2 x3 x4]
  exact codes_row _ _ (k0_pay1 x0 x1) (k0_pay2 x0 x1) i (by rw [nrm_scale x0 x1 x2 x3 x4, nrm_row x0 x1 x2 x3 x4])

theorem mm (i : Fin 8192) (o : Fin 3840) :
    matmul dot_S8192x1280_S3840x1280_S8192x3840_1_1_0_0_n_n none (k0_pay3 (F := Ideal) x0 x1) x2
      (constant S8192x3840 .f32 0x00000000#32) (ix2 i o)
      = ∑ k, x2 (ix2 o k) * cod (nrm (wts x1 x2 x3 x4) (row x0 i)) k := by
  refine (Ideal.matmul_transposedRhs_apply none (k0_pay3 (F := Ideal) x0 x1) x2 _ i o).trans ?_
  rw [show (constant (F := Ideal) S8192x3840 .f32 0x00000000#32) (ValueIdx.ix2 i o) = 0 by pointwise [], zero_add]
  refine Finset.sum_congr rfl fun k _ => ?_
  rw [← nrm_codes x0 x1 x2 x3 x4]
  exact mul_comm _ _

theorem lin_apply (i : Fin 8192) (o : Fin 3840) :
    addf (k0_pay4 (F := Ideal) x0 x1 x2 x3) (broadcastTo S8192x3840 (shapeCast S1x3840 x4 shapeCasts_S3840x1_S1x3840)
      broadcasts_S1x3840_S8192x3840) (ix2 i o) = lin (wts x1 x2 x3 x4) (row x0 i) o := by
  have hc : ∀ v : FVec Ideal S3840x1 .f32, shapeCast S1x3840 v shapeCasts_S3840x1_S1x3840 (ix2 0 o) = v (ix2 o 0) := fun v => by
    pointwise []
  unfold k0_pay4
  rw [addf_apply, mulf_apply, mulf_apply, mm x0 x1 x2 x3 x4]
  rw [show broadcastTo S8192x3840 (k0_pay2 (F := Ideal) x0 x1) broadcasts_S8192x1_S8192x3840 (ix2 i o) = _ from col_apply _ _ i o]
  rw [row_apply (n := 8192) (m := 3840) _ _ i o, row_apply (n := 8192) (m := 3840) _ _ i o, hc, hc, nrm_scale x0 x1 x2 x3 x4]
  rfl

/-- One entry of the outputs split into groups and heads. -/
theorem split_apply (i : Fin 8192) (z : Fin 3) (h : Fin 16) (d : Fin 80) :
    k0_pay5 (k0_pay4 (F := Ideal) x0 x1 x2 x3) x4 (ix4 i z h d) = head (wts x1 x2 x3 x4) (row x0 i) z h d := by
  refine Eq.trans ?_ (lin_apply x0 x1 x2 x3 x4 i ⟨1280 * z.val + 80 * h.val + d.val, by omega⟩)
  unfold k0_pay5
  generalize addf (k0_pay4 (F := Ideal) x0 x1 x2 x3) _ = y
  pointwise []
  congr 2
  apply Fin.ext
  simp
  omega

theorem rope_apply (y : FVec Ideal S8192x3840 .f32) (t : Fin 80 → EReal) (i : Fin 8192) (z : Fin 2) (h : Fin 16) (d : Fin 80)
    (ht : ∀ d, k0_pay5 y x4 (ix4 i ⟨z.val, by omega⟩ h d) = t d) :
    k0_pay6 y x4 x5 x6 (ix4 i z h d) = rope t (row x5 i) (row x6 i) d := by
  unfold rope
  rw [← ht, k0_pay6]
  generalize k0_pay5 y x4 = Y at ht ⊢
  by_cases hd : d.val < 40
  · rw [dif_pos hd, ← ht]
    pointwise []
    exact congrArg (fun w : EReal => Y (ix4 i ⟨z.val, by omega⟩ h d) * x5 (ix2 i d) + w * x6 (ix2 i d)) (dif_pos hd)
  · rw [dif_neg hd, ← ht]
    pointwise []
    exact congrArg (fun w : EReal => Y (ix4 i ⟨z.val, by omega⟩ h d) * x5 (ix2 i d) + w * x6 (ix2 i d)) (dif_neg hd)

theorem u2 : k0_pay8 (k0_pay4 (F := Ideal) x0 x1 x2 x3) x4 x5 x6 = U2 (wts x1 x2 x3 x4) x0 x5 x6 := by
  funext y
  obtain ⟨j, i, rfl⟩ : ∃ (j : Fin 1280) (i : Fin 8192), y = ix2 j i := ⟨y 0, y 1, ValueIdx.eq_ix2 y⟩
  refine Eq.trans ?_ (rope_apply x4 x5 x6 (k0_pay4 (F := Ideal) x0 x1 x2 x3) _ i 0 (hdOf j) (inHd j) (split_apply x0 x1 x2 x3 x4 i 0 (hdOf j)))
  unfold k0_pay8
  generalize k0_pay6 (k0_pay4 (F := Ideal) x0 x1 x2 x3) x4 x5 x6 = Y
  pointwise []

theorem u3 : k0_pay9 (k0_pay4 (F := Ideal) x0 x1 x2 x3) x4 x5 x6 = U3 (wts x1 x2 x3 x4) x0 x5 x6 := by
  funext y
  obtain ⟨h, i, d, rfl⟩ : ∃ (h : Fin 16) (i : Fin 8192) (d : Fin 80), y = ix3 h i d := ⟨y 0, y 1, y 2, ValueIdx.eq_ix3 y⟩
  refine Eq.trans ?_ (rope_apply x4 x5 x6 (k0_pay4 (F := Ideal) x0 x1 x2 x3) _ i 1 h d (split_apply x0 x1 x2 x3 x4 i 1 h))
  unfold k0_pay9
  generalize k0_pay6 (k0_pay4 (F := Ideal) x0 x1 x2 x3) x4 x5 x6 = Y
  pointwise []

theorem u4 : k0_pay10 (k0_pay4 (F := Ideal) x0 x1 x2 x3) x4 = U4 (wts x1 x2 x3 x4) x0 := by
  funext y
  obtain ⟨j, i, rfl⟩ : ∃ (j : Fin 1280) (i : Fin 8192), y = ix2 j i := ⟨y 0, y 1, ValueIdx.eq_ix2 y⟩
  refine Eq.trans ?_ (split_apply x0 x1 x2 x3 x4 i 2 (hdOf j) (inHd j))
  unfold k0_pay10
  generalize k0_pay5 (k0_pay4 (F := Ideal) x0 x1 x2 x3) x4 = Y
  pointwise []

theorem u0 : k0_pay3 x0 x1 = U0 (wts x1 x2 x3 x4) x0 := by
  funext y
  obtain ⟨i, j, rfl⟩ : ∃ (i : Fin 8192) (j : Fin 1280), y = ix2 i j := ⟨y 0, y 1, ValueIdx.eq_ix2 y⟩
  exact congrFun (nrm_codes x0 x1 x2 x3 x4 i) j

theorem u1 : k0_pay7 (k0_pay2 x0 x1) = U1 (wts x1 x2 x3 x4) x0 := by
  funext y
  obtain ⟨z, i, rfl⟩ : ∃ (z : Fin 1) (i : Fin 8192), y = ix2 z i := ⟨y 0, y 1, ValueIdx.eq_ix2 y⟩
  refine Eq.trans ?_ (nrm_scale x0 x1 x2 x3 x4 i 0)
  unfold k0_pay7
  generalize k0_pay2 (F := Ideal) x0 x1 = Y
  pointwise []

end Cert.QkvRefPay
-- ==== Proof.QkvRef.lean ====
module

public import proofs.«01_k».proof.Proof.QkvRefRun
public import proofs.«01_k».proof.Proof.QkvRefPay

/-! The q/k/v reference ends with the five arrays of QkvSpec. -/

@[expose] public section

noncomputable section

namespace Cert.QkvRef

open Idealize.ShloMosaic Idealize.ShloMosaic.TcCoe Idealize.SL.Sem Cert.QkvReferenceIdeal Cert.QkvReferenceIdeal.Gen Cert.QkvSpec Cert.QkvRefRun

theorem z2 : (![0, 0] : Fin 2 → Nat) = fun _ => 0 := funext fun a => by fin_cases a <;> rfl

theorem ld0 (x : Vec Ideal S8192x1280 .bf16) : View.ld x r0_0 = x := View.ld_unit_zero (S := S8192x1280) z2 _ x
theorem ld1 (x : Vec Ideal S1x1280 .f32) : View.ld x r0_1 = x := View.ld_unit_zero (S := S1x1280) z2 _ x
theorem ld2 (x : Vec Ideal S3840x1280 .fp8e4m3) : View.ld x r0_2 = x := View.ld_unit_zero (S := S3840x1280) z2 _ x
theorem ld3 (x : Vec Ideal S3840x1 .f32) : View.ld x r0_3 = x := View.ld_unit_zero (S := S3840x1) z2 _ x

variable (x0 : Vec Ideal S8192x1280 .bf16) (x1 : Vec Ideal S1x1280 .f32) (x2 : Vec Ideal S3840x1280 .fp8e4m3) (x3 : Vec Ideal S3840x1 .f32) (x4 : Vec Ideal S3840x1 .f32) (x5 : Vec Ideal S8192x80 .f32) (x6 : Vec Ideal S8192x80 .f32)

theorem prod_eq : k0_pay11 x0 x1 x2 x3 x4 x5 x6 = k0_pay4 (F := Ideal) x0 x1 x2 x3 := by
  unfold k0_pay11
  rw [ld0, ld1, ld2, ld3]

theorem g0 : G7 x0 x1 x2 x3 x4 x5 x6 = U0 (wts x1 x2 x3 x4) x0 := by
  exact QkvRefPay.u0 x0 x1 x2 x3 x4

theorem g1 : G8 x0 x1 x2 x3 x4 x5 x6 = U1 (wts x1 x2 x3 x4) x0 := by
  exact QkvRefPay.u1 x0 x1 x2 x3 x4

theorem g2 : G9 x0 x1 x2 x3 x4 x5 x6 = U2 (wts x1 x2 x3 x4) x0 x5 x6 := by
  unfold G9
  rw [prod_eq]
  exact QkvRefPay.u2 x0 x1 x2 x3 x4 x5 x6

theorem g3 : G10 x0 x1 x2 x3 x4 x5 x6 = U3 (wts x1 x2 x3 x4) x0 x5 x6 := by
  unfold G10
  rw [prod_eq]
  exact QkvRefPay.u3 x0 x1 x2 x3 x4 x5 x6

theorem g4 : G11 x0 x1 x2 x3 x4 x5 x6 = U4 (wts x1 x2 x3 x4) x0 := by
  unfold G11
  rw [prod_eq]
  exact QkvRefPay.u4 x0 x1 x2 x3 x4

variable (m : (ℓ : Loc nD τ sig) → Buf (Elt Ideal) ℓ) (ρ : Dev nD → PrngReg)

/-- The reference's weights. -/
abbrev wOf (c : Dev nD) : Wts := wts (m ((c : Thread nD τ).loc main_arg1)) (m ((c : Thread nD τ).loc main_arg2)) (m ((c : Thread nD τ).loc main_arg3)) (m ((c : Thread nD τ).loc main_arg4))

/-- The reference runs, its results are the arrays of QkvSpec, and its arguments are unchanged. -/
theorem run : θ_run defs (onTc (τ := τ) (main (F := Ideal))) ⟨m, fun _ => 0, ρ⟩ fun r => ∀ c : Dev nD,
      r.2.mem ((c : Thread nD τ).loc main_v0_0) = U0 (wOf m c) (m ((c : Thread nD τ).loc main_arg0))
      ∧ r.2.mem ((c : Thread nD τ).loc main_v0_1) = U1 (wOf m c) (m ((c : Thread nD τ).loc main_arg0))
      ∧ r.2.mem ((c : Thread nD τ).loc main_v0_2) = U2 (wOf m c) (m ((c : Thread nD τ).loc main_arg0)) (m ((c : Thread nD τ).loc main_arg5)) (m ((c : Thread nD τ).loc main_arg6))
      ∧ r.2.mem ((c : Thread nD τ).loc main_v0_3) = U3 (wOf m c) (m ((c : Thread nD τ).loc main_arg0)) (m ((c : Thread nD τ).loc main_arg5)) (m ((c : Thread nD τ).loc main_arg6))
      ∧ r.2.mem ((c : Thread nD τ).loc main_v0_4) = U4 (wOf m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨h0, h1, h2, h3, h4, hk⟩ := h c
    exact ⟨h0.trans (g0 _ _ _ _ _ _ _), h1.trans (g1 _ _ _ _ _ _ _), h2.trans (g2 _ _ _ _ _ _ _), h3.trans (g3 _ _ _ _ _ _ _), h4.trans (g4 _ _ _ _ _ _ _), hk⟩) (QkvRefRun.run (F := Ideal) m ρ)

end Cert.QkvRef

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.QkvKernel
public import proofs.«01_k».proof.Proof.Gen.QkvKernel.Frame
public import proofs.«01_k».proof.Proof.Gen.QkvKernelIdeal
public import proofs.«01_k».proof.Proof.Gen.QkvKernelIdeal.Frame
public import proofs.«01_k».proof.Proof.Gen.QkvReferenceIdeal
public import proofs.«01_k».proof.Proof.Gen.QkvReferenceIdeal.Frame
public import proofs.«01_k».proof.Proof.KerRun
public import proofs.«01_k».proof.Proof.RefRun
public import proofs.«01_k».proof.Proof.QkvArr
public import proofs.«01_k».proof.Proof.QkvRef

@[expose] public section

noncomputable section

namespace Cert.Proof

open Idealize.ShloMosaic Idealize.SL.Sem Cert.Spec

/-- The kernel and the reference end with the same eight arrays. -/
theorem algebraic : algebraic_KernelIdeal_ReferenceIdeal := by
  intro m g m' g' _ e
  refine ⟨fun c => T0 (m ((c.tc : Thread Cert.KernelIdeal.nD Cert.KernelIdeal.τ).loc Cert.KernelIdeal.main_arg0)),
    fun c => T1 (m ((c.tc : Thread Cert.KernelIdeal.nD Cert.KernelIdeal.τ).loc Cert.KernelIdeal.main_arg0)),
    fun c => T2 (m ((c.tc : Thread Cert.KernelIdeal.nD Cert.KernelIdeal.τ).loc Cert.KernelIdeal.main_arg0)),
    fun c => T3 (KerRun.wOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => T4 (KerRun.wOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => T5 (KerRun.wOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => T6 (KerRun.wOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => T7 (KerRun.wOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run _ _ _).mono (fun r h c => h c) (KerRun.run m g), (θ_run _ _ _).mono (fun r h c => ?_) (RefRun.run m' g')⟩
  obtain ⟨e0, e1, e2, e3, e4, e5, e6, e7, e8, e9, e10, e11, e12, e13, e14⟩ := e c
  obtain ⟨h0, h1, h2, h3, h4, h5, h6, h7, hk⟩ := h c
  have hw : RefRun.wOf m' c = KerRun.wOf m c := by
    unfold RefRun.wOf KerRun.wOf RefPay.W
    rw [e2, e3, e4, e5, e6, e7, e8, e9, e10, e11, e12, e13, e14]
  exact ⟨h0.trans (congrArg T0 e0), h1.trans (congrArg T1 e0), h2.trans (congrArg T2 e0), h3.trans (congr (congrArg₂ T3 hw e0) e1), h4.trans (congr (congrArg₂ T4 hw e0) e1), h5.trans (congr (congrArg₂ T5 hw e0) e1), h6.trans (congr (congrArg₂ T6 hw e0) e1), h7.trans (congr (congrArg₂ T7 hw e0) e1), hk⟩

/-- The q/k/v kernel and its reference end with the same five arrays. -/
theorem algebraic_qkv : algebraic_QkvKernelIdeal_QkvReferenceIdeal := by
  intro m g m' g' _ e
  refine ⟨fun c => QkvSpec.U0 (QkvArr.wOf m c) (m ((c.tc : Thread Cert.QkvKernelIdeal.nD Cert.QkvKernelIdeal.τ).loc Cert.QkvKernelIdeal.main_arg0)),
    fun c => QkvSpec.U1 (QkvArr.wOf m c) (m ((c.tc : Thread Cert.QkvKernelIdeal.nD Cert.QkvKernelIdeal.τ).loc Cert.QkvKernelIdeal.main_arg0)),
    fun c => QkvSpec.U2 (QkvArr.wOf m c) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg5)) (m ((c.tc : Thread Cert.QkvKernelIdeal.nD Cert.QkvKernelIdeal.τ).loc Cert.QkvKernelIdeal.main_arg6)),
    fun c => QkvSpec.U3 (QkvArr.wOf m c) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg5)) (m ((c.tc : Thread Cert.QkvKernelIdeal.nD Cert.QkvKernelIdeal.τ).loc Cert.QkvKernelIdeal.main_arg6)),
    fun c => QkvSpec.U4 (QkvArr.wOf m c) (m ((c.tc : Thread Cert.QkvKernelIdeal.nD Cert.QkvKernelIdeal.τ).loc Cert.QkvKernelIdeal.main_arg0)),
    (θ_run _ _ _).mono (fun r h c => h c) (QkvArr.run m g), (θ_run _ _ _).mono (fun r h c => ?_) (QkvRef.run m' g')⟩
  obtain ⟨e0, e1, e2, e3, e4, e5, e6, e7⟩ := e c
  obtain ⟨h0, h1, h2, h3, h4, hk⟩ := h c
  have hw : QkvRef.wOf m' c = QkvArr.wOf m c := by
    unfold QkvRef.wOf
    rw [e1, e2, e3, e4]
    rfl
  exact ⟨h0.trans (congrArg₂ QkvSpec.U0 hw e0), h1.trans (congrArg₂ QkvSpec.U1 hw e0),
    h2.trans (congr (congr (congrArg₂ QkvSpec.U2 hw e0) e5) e6), h3.trans (congr (congr (congrArg₂ QkvSpec.U3 hw e0) e5) e6),
    h4.trans (congrArg₂ QkvSpec.U4 hw e0), hk⟩

theorem claim : Cert.Claim := ⟨Cert.Kernel.Gen.facts, Cert.KernelIdeal.Gen.facts, Cert.ReferenceIdeal.Gen.facts,
  Cert.QkvKernel.Gen.facts, Cert.QkvKernelIdeal.Gen.facts, Cert.QkvReferenceIdeal.Gen.facts,
  fun m ρ _ => Cert.Kernel.Gen.frame m ρ, fun m ρ _ => Cert.KernelIdeal.Gen.frame m ρ,
  fun m ρ _ => Cert.ReferenceIdeal.Gen.frame m ρ, fun m ρ _ => Cert.QkvKernel.Gen.frame m ρ,
  fun m ρ _ => Cert.QkvKernelIdeal.Gen.frame m ρ, fun m ρ _ => Cert.QkvReferenceIdeal.Gen.frame m ρ,
  trivial, algebraic, trivial, algebraic_qkv⟩

end Cert.Proof

end
